-- ==== Defs.lean ====
def Pre_Kernel [hPre_label_range : Cert.Pre_label_range.Facts] (m : (ℓ : Loc Cert.Kernel.nD Cert.Kernel.τ Cert.Kernel.sig) → Buf (Elt Bits) ℓ) : Prop :=
  ∀ c : Dev Cert.Kernel.nD,
    (Cert.Pre_label_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_label_range : Cert.Pre_label_range.Facts] (m : (ℓ : Loc Cert.KernelIdeal.nD Cert.KernelIdeal.τ Cert.KernelIdeal.sig) → Buf (Elt Ideal) ℓ) : Prop :=
  ∀ c : Dev Cert.KernelIdeal.nD,
    (Cert.Pre_label_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_range [hPre_label_range : Cert.Pre_label_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_label_range : Cert.Pre_label_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_label_range : Cert.Pre_label_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_label_range [hReferenceIdeal : Cert.ReferenceIdeal.Facts] [hPre_label_range : Cert.Pre_label_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_18" .f32 0x3D638E39#32 ((1 / 18 : ℝ) : EReal)

def algebraic_KernelIdeal_ReferenceIdeal [hKernelIdeal : Cert.KernelIdeal.Facts] [hReferenceIdeal : Cert.ReferenceIdeal.Facts] [hPre_label_range : Cert.Pre_label_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_label_range : Cert.Pre_label_range.Facts),
    quiescent_Kernel (hKernel := hKernel) (hPre_label_range := hPre_label_range)
    ∧ quiescent_KernelIdeal (hKernelIdeal := hKernelIdeal) (hPre_label_range := hPre_label_range)
    ∧ quiescent_ReferenceIdeal (hReferenceIdeal := hReferenceIdeal)
    ∧ quiescent_ReferenceIdeal_pre_label_range (hReferenceIdeal := hReferenceIdeal) (hPre_label_range := hPre_label_range)
    ∧ preserves_Kernel_KernelIdeal
    ∧ algebraic_KernelIdeal_ReferenceIdeal (hKernelIdeal := hKernelIdeal) (hReferenceIdeal := hReferenceIdeal) (hPre_label_range := hPre_label_range)
-- ==== Pre_label_range.lean ====
abbrev S2x96x512x512 : Shape := ⟨4, ![2, 96, 512, 512]⟩
abbrev S2x1x512x512 : Shape := ⟨4, ![2, 1, 512, 512]⟩
abbrev S19 : Shape := ⟨1, ![19]⟩
abbrev S_ : Shape := ⟨0, ![]⟩

class Facts : Prop where
  bcast_S_S2x1x512x512 : S_.BroadcastsInDim S2x1x512x512 (![] : Fin 0 → Fin S2x1x512x512.rank)
  reducesTo_S2x1x512x512_S_d0_1_2_3 : S2x1x512x512.ReducesTo [0, 1, 2, 3] S_
  h_S_ : 0 < S_.numel

variable [Facts]

def fn {F : FTy → Type} [FloatOps F] (main_arg0 : FVec F S2x96x512x512 .f32) (main_arg1 : IVec S2x1x512x512 32) (main_arg2 : FVec F S19 .f32) : IVec S_ 1 :=
  let main_c : IVec S_ 32 := constantI S_ 32 0#32
  let main_v0 : IVec S2x1x512x512 32 := broadcastInDim S2x1x512x512 ![] bcast_S_S2x1x512x512 main_c
  let main_v1 : IVec S2x1x512x512 1 := cmpi .sge main_arg1 main_v0
  let main_c_0 : IVec S_ 32 := constantI S_ 32 19#32
  let main_v2 : IVec S2x1x512x512 32 := broadcastInDim S2x1x512x512 ![] bcast_S_S2x1x512x512 main_c_0
  let main_v3 : IVec S2x1x512x512 1 := cmpi .slt main_arg1 main_v2
  let main_v4 : IVec S2x1x512x512 1 := andi main_v1 main_v3
  let main_c_1 : IVec S_ 1 := constantI S_ 1 1#1
  let main_v5 : IVec S_ 1 := (fun x v => Host.reduce IntOp.andi x v reducesTo_S2x1x512x512_S_d0_1_2_3 h_S_) main_v4 main_c_1
  main_v5
-- ==== Kernel.lean ====
abbrev S2x96x512x512 : Shape := ⟨4, ![2, 96, 512, 512]⟩
abbrev S2x1x512x512 : Shape := ⟨4, ![2, 1, 512, 512]⟩
abbrev S19 : Shape := ⟨1, ![19]⟩
abbrev S524288 : Shape := ⟨1, ![524288]⟩
abbrev S_ : Shape := ⟨0, ![]⟩
abbrev S32 : Shape := ⟨1, ![32]⟩
abbrev S16384 : Shape := ⟨1, ![16384]⟩
abbrev S16 : Shape := ⟨1, ![16]⟩
abbrev S8192 : Shape := ⟨1, ![8192]⟩
abbrev S192x8x32768 : Shape := ⟨3, ![192, 8, 32768]⟩
abbrev S2x8x32768 : Shape := ⟨3, ![2, 8, 32768]⟩
abbrev S1x8x32768 : Shape := ⟨3, ![1, 8, 32768]⟩

abbrev nBuf : Table → Nat
  | .hbm => 13
  | .local .tc .vmem => 6
  | .local .scVector .vmem => 3
  | _ => 0

abbrev bufTy : (tb : Table) → Fin (nBuf tb) → BufTy
  | .hbm, ⟨0, _⟩ => ⟨S2x96x512x512, .f32⟩
  | .hbm, ⟨1, _⟩ => ⟨S2x1x512x512, .i32⟩
  | .hbm, ⟨2, _⟩ => ⟨S19, .f32⟩
  | .hbm, ⟨3, _⟩ => ⟨S524288, .i32⟩
  | .hbm, ⟨4, _⟩ => ⟨S_, .i32⟩
  | .hbm, ⟨5, _⟩ => ⟨S_, .f32⟩
  | .hbm, ⟨6, _⟩ => ⟨S32, .f32⟩
  | .hbm, ⟨7, _⟩ => ⟨S524288, .f32⟩
  | .hbm, ⟨8, _⟩ => ⟨S2x1x512x512, .f32⟩
  | .hbm, ⟨9, _⟩ => ⟨S192x8x32768, .f32⟩
  | .hbm, ⟨10, _⟩ => ⟨S2x8x32768, .f32⟩
  | .hbm, ⟨11, _⟩ => ⟨S192x8x32768, .f32⟩
  | .hbm, ⟨12, _⟩ => ⟨S2x96x512x512, .f32⟩
  | .local .tc .vmem, ⟨0, _⟩ => ⟨S1x8x32768, .f32⟩
  | .local .tc .vmem, ⟨1, _⟩ => ⟨S1x8x32768, .f32⟩
  | .local .tc .vmem, ⟨2, _⟩ => ⟨S1x8x32768, .f32⟩
  | .local .tc .vmem, ⟨3, _⟩ => ⟨S1x8x32768, .f32⟩
  | .local .tc .vmem, ⟨4, _⟩ => ⟨S1x8x32768, .f32⟩
  | .local .tc .vmem, ⟨5, _⟩ => ⟨S1x8x32768, .f32⟩
  | .local .scVector .vmem, ⟨0, _⟩ => ⟨S32, .f32⟩
  | .local .scVector .vmem, ⟨1, _⟩ => ⟨S16384, .i32⟩
  | .local .scVector .vmem, ⟨2, _⟩ => ⟨S16384, .f32⟩
  | _, _ => ⟨S2x96x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v0_scv : Ref sig .scVector := ⟨.hbm, 3, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
@[reducible] def k0_t1_loop : Scf.Loop 32 :=
  let c0_i32_5 : BitVec 32 := 0#32
  let c512_i32 : BitVec 32 := 512#32
  let v19 : BitVec 32 := Scalar.addi c0_i32_5 c512_i32
  let c1_i32 : BitVec 32 := 1#32
  ⟨c0_i32_5, v19, c1_i32⟩
def k0_off2 (k0_t1 : Fin k0_t1_loop.trips) : Fin 1 → Nat :=
  let c0_i32_21 : BitVec 32 := 0#32
  let c0_i32_5 : BitVec 32 := 0#32
  let c1_i32 : BitVec 32 := 1#32
  let arg11 : BitVec 32 := Scf.iv c0_i32_5 c1_i32 k0_t1
  let c16_i32 : BitVec 32 := 16#32
  let v41 : BitVec 32 := Scalar.muli arg11 c16_i32
  let v42 : BitVec 32 := Scalar.addi c0_i32_21 v41
  let v43 : Index := Scalar.indexCast v42
  ![v43.toNat]

def k0_chk1 (v44 : IVec S16 32) : Prop :=
  (∀ a x, ((![v44] : Fin 1 → IVec S16 32) a x).toNat < S32.size a)
theorem k0_idx1_inb : ∀ (v44 : IVec S16 32) (k0_hw1 : k0_chk1 v44), ∀ a x, ((![v44] : Fin 1 → IVec S16 32) a x).toNat < S32.size a := fun v44 k0_hw1 => k0_hw1
def k0_off3 (k0_t1 : Fin k0_t1_loop.trips) : Fin 1 → Nat :=
  let c0_i32_21 : BitVec 32 := 0#32
  let c0_i32_5 : BitVec 32 := 0#32
  let c1_i32 : BitVec 32 := 1#32
  let arg11 : BitVec 32 := Scf.iv c0_i32_5 c1_i32 k0_t1
  let c16_i32 : BitVec 32 := 16#32
  let v41 : BitVec 32 := Scalar.muli arg11 c16_i32
  let v42 : BitVec 32 := Scalar.addi c0_i32_21 v41
  let v46 : Index := Scalar.indexCast v42
  ![v46.toNat]
def k0_off4 (i : grid0.Coords) (c0_i32_7 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v21 : BitVec 32 := Scalar.addi v2 c0_i32_7
  ![v21.toNat]
@[reducible] def k0_t2_loop : Scf.Loop 32 :=
  let c0_i32_11 : BitVec 32 := 0#32
  let c512_i32_12 : BitVec 32 := 512#32
  let v26 : BitVec 32 := Scalar.addi c0_i32_11 c512_i32_12
  let c1_i32_13 : BitVec 32 := 1#32
  ⟨c0_i32_11, v26, c1_i32_13⟩
def k0_off5 (k0_t2 : Fin k0_t2_loop.trips) : Fin 1 → Nat :=
  let c8192_i32_21 : BitVec 32 := 8192#32
  let c0_i32_11 : BitVec 32 := 0#32
  let c1_i32_13 : BitVec 32 := 1#32
  let arg11 : BitVec 32 := Scf.iv c0_i32_11 c1_i32_13 k0_t2
  let c16_i32 : BitVec 32 := 16#32
  let v41 : BitVec 32 := Scalar.muli arg11 c16_i32
  let v42 : BitVec 32 := Scalar.addi c8192_i32_21 v41
  let v43 : Index := Scalar.indexCast v42
  ![v43.toNat]

def k0_chk2 (v44 : IVec S16 32) : Prop :=
  (∀ a x, ((![v44] : Fin 1 → IVec S16 32) a x).toNat < S32.size a)
theorem k0_idx2_inb : ∀ (v44 : IVec S16 32) (k0_hw2 : k0_chk2 v44), ∀ a x, ((![v44] : Fin 1 → IVec S16 32) a x).toNat < S32.size a := fun v44 k0_hw2 => k0_hw2
def k0_off6 (k0_t2 : Fin k0_t2_loop.trips) : Fin 1 → Nat :=
  let c8192_i32_21 : BitVec 32 := 8192#32
  let c0_i32_11 : BitVec 32 := 0#32
  let c1_i32_13 : BitVec 32 := 1#32
  let arg11 : BitVec 32 := Scf.iv c0_i32_11 c1_i32_13 k0_t2
  let c16_i32 : BitVec 32 := 16#32
  let v41 : BitVec 32 := Scalar.muli arg11 c16_i32
  let v42 : BitVec 32 := Scalar.addi c8192_i32_21 v41
  let v46 : Index := Scalar.indexCast v42
  ![v46.toNat]
abbrev grid1 : Pipeline.Grid := ⟨1, ![192], ![false]⟩

def cc1_transform_0 (i : grid1.Coords) : Fin 3 → Nat :=
  let arg0 : BitVec 32 := BitVec.ofNat 32 (i 0).val
  let c96_i32 : BitVec 32 := 96#32
  let v0 : BitVec 32 := Scalar.divsi arg0 c96_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c96_i32 c0_i32_1
  let v7 : BitVec 32 := Scalar.extui v6
  let c0_i32_2 : BitVec 32 := 0#32
  let v8 : BitVec 1 := Scalar.cmpi .slt c96_i32 c0_i32_2
  let v9 : BitVec 32 := Scalar.extui v8
  let v10 : BitVec 32 := Scalar.subi v7 v9
  let v11 : BitVec 1 := Scalar.cmpi .ne v5 v10
  let v12 : BitVec 32 := Scalar.remsi arg0 c96_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_18" => some ((1 / 18 : ℝ) : EReal)
  | _ => none
-- ==== ReferenceIdeal.lean ====
abbrev S2x96x512x512 : Shape := ⟨4, ![2, 96, 512, 512]⟩
abbrev S2x1x512x512 : Shape := ⟨4, ![2, 1, 512, 512]⟩
abbrev S19 : Shape := ⟨1, ![19]⟩
abbrev S_ : Shape := ⟨0, ![]⟩
abbrev S2x512x512 : Shape := ⟨3, ![2, 512, 512]⟩
abbrev S2x512x512x1 : Shape := ⟨4, ![2, 512, 512, 1]⟩
abbrev S1 : Shape := ⟨1, ![1]⟩
abbrev S1x1x1x1 : Shape := ⟨4, ![1, 1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S2x1x512x512, .i32⟩
  | .hbm, ⟨2, _⟩ => ⟨S19, .f32⟩
  | .hbm, ⟨3, _⟩ => ⟨S_, .f32⟩
  | .hbm, ⟨4, _⟩ => ⟨S19, .f32⟩
  | .hbm, ⟨5, _⟩ => ⟨S19, .f32⟩
  | .hbm, ⟨6, _⟩ => ⟨S_, .f32⟩
  | .hbm, ⟨7, _⟩ => ⟨S19, .f32⟩
  | .hbm, ⟨8, _⟩ => ⟨S19, .f32⟩
  | .hbm, ⟨9, _⟩ => ⟨S2x512x512, .i32⟩
  | .hbm, ⟨10, _⟩ => ⟨S_, .i32⟩
  | .hbm, ⟨11, _⟩ => ⟨S2x512x512, .i32⟩
  | .hbm, ⟨12, _⟩ => ⟨S2x512x512, .i1⟩
  | .hbm, ⟨13, _⟩ => ⟨S_, .i32⟩
  | .hbm, ⟨14, _⟩ => ⟨S2x512x512, .i32⟩
  | .hbm, ⟨15, _⟩ => ⟨S2x512x512, .i32⟩
  | .hbm, ⟨16, _⟩ => ⟨S2x512x512, .i32⟩
  | .hbm, ⟨17, _⟩ => ⟨S2x512x512x1, .i32⟩
  | .hbm, ⟨18, _⟩ => ⟨S1, .i32⟩
  | .hbm, ⟨19, _⟩ => ⟨S_, .i32⟩
  | .hbm, ⟨20, _⟩ => ⟨S2x512x512x1, .i32⟩
  | .hbm, ⟨21, _⟩ => ⟨S2x512x512x1, .i1⟩
  | .hbm, ⟨22, _⟩ => ⟨S1x1x1x1, .i32⟩
  | .hbm, ⟨23, _⟩ => ⟨S2x512x512x1, .i32⟩
  | .hbm, ⟨24, _⟩ => ⟨S2x512x512x1, .i1⟩
  | .hbm, ⟨25, _⟩ => ⟨S2x512x512x1, .i1⟩
  | .hbm, ⟨26, _⟩ => ⟨S_, .i1⟩
  | .hbm, ⟨27, _⟩ => ⟨S2x512x512, .i1⟩
  | .hbm, ⟨28, _⟩ => ⟨S2x512x512, .f32⟩
  | .hbm, ⟨29, _⟩ => ⟨S_, .f32⟩
  | .hbm, ⟨30, _⟩ => ⟨S2x512x512, .f32⟩
  | .hbm, ⟨31, _⟩ => ⟨S2x512x512, .f32⟩
  | .hbm, ⟨32, _⟩ => ⟨S_, .f32⟩
  | .hbm, ⟨33, _⟩ => ⟨S2x512x512, .f32⟩
  | .hbm, ⟨34, _⟩ => ⟨S2x512x512, .f32⟩
  | .hbm, ⟨35, _⟩ => ⟨S_, .f32⟩
  | .hbm, ⟨36, _⟩ => ⟨S2x512x512, .f32⟩
  | .hbm, ⟨37, _⟩ => ⟨S2x512x512, .f32⟩
  | .hbm, ⟨38, _⟩ => ⟨S2x1x512x512, .f32⟩
  | .hbm, ⟨39, _⟩ => ⟨S2x96x512x512, .f32⟩
  | .hbm, ⟨40, _⟩ => ⟨S2x96x512x512, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Setup.lean ====
/-
  The kernel with the launch theorem's names: the SparseCore launch, the resource algebra the proof runs in, the values
  the SparseCores are to leave, and what the launch hands each SparseCore and each of its tiles.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer of a SparseCore is shared out to its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' component, and the pipeline's. -/
abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays the SparseCores touch -/

/-- The flat labels, the padded ranks table and the flat result, as locations of device `d`. -/
abbrev lLoc (d : Dev nD) : Loc nD τ sig := (SparseCore.T d).loc main_v0
abbrev rLoc (d : Dev nD) : Loc nD τ sig := (SparseCore.T d).loc main_v1
abbrev gLoc (d : Dev nD) : Loc nD τ sig := (SparseCore.T d).loc main_v2

variable [FloatOps F] [Named F]

/-- The modulation of one rank: two less the rank times the named eighteenth. -/
def gval (x : F .f32) : F .f32 :=
  FloatOps.subf (Scalar.ofBits .f32 0x40000000#32) (FloatOps.mulf x (Named.named κ "inv_18" 0x3D638E39#32))

omit [FloatOps F] [Named F] in
theorem thirtyTwo (n : ℕ) : n % 32 < S32.size 0 := Nat.mod_lt _ (by decide)

/-- Position `n` of the ranks table (any word, reduced). -/
def at32 (n : ℕ) : S32.Idx := fun a => ⟨n % 32, by rw [Subsingleton.elim a 0]; exact thirtyTwo n⟩

/-- What the SparseCores leave: at each pixel the modulation of its label's rank. -/
def gam (lab : S524288.Idx → BitVec 32) (rk : S32.Idx → F .f32) : S524288.Idx → F .f32 := fun n => gval (rk (at32 (lab n).toNat))

end Cert.Proof.K
-- ==== Proof.Windows.lean ====
/-
  The windows of the arrays one tile works on, as sets of positions.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-! ## The memrefs a tile works on -/

abbrev lW : Memref sig .scVector .hbm S524288 .i32 := Memref.whole main_v0_scv
abbrev rW : Memref sig .scVector .hbm S32 .f32 := Memref.whole main_v1_scv
abbrev gW : Memref sig .scVector .hbm S524288 .f32 := Memref.whole main_v2_scv
abbrev tabW : Memref sig .scVector .vmem S32 .f32 := Memref.whole cc0_scratch0
abbrev labW : Memref sig .scVector .vmem S16384 .i32 := Memref.whole cc0_scratch1
abbrev outW : Memref sig .scVector .vmem S16384 .f32 := Memref.whole cc0_scratch2

section Body

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- The window of the labels a tile fetches. -/
abbrev lWin : Memref sig .scVector .hbm S16384 .i32 :=
  (lW).slice (Rect.unit (s := S524288) (k0_off1 L) S16384.size (k0_off1_inb L)) (fun _ => rfl)
/-- The two halves of the result's window, and of the scratch they are sent from. -/
abbrev gA : Memref sig .scVector .hbm S8192 .f32 :=
  (gW).slice (Rect.unit (s := S524288) (k0_off4 L 0#32) S8192.size (k0_off4_inb L 0)) (fun _ => rfl)
abbrev gB : Memref sig .scVector .hbm S8192 .f32 :=
  (gW).slice (Rect.unit (s := S524288) (k0_off4 L 8192#32) S8192.size (k0_off4_inb L 1)) (fun _ => rfl)
abbrev oA : Memref sig .scVector .vmem S8192 .f32 :=
  (outW).slice (Rect.unit (s := S16384) ![0] S8192.size inb_S16384_S8192_0) (fun _ => rfl)
abbrev oB : Memref sig .scVector .vmem S8192 .f32 :=
  (outW).slice (Rect.unit (s := S16384) ![8192] S8192.size inb_S16384_S8192_8192) (fun _ => rfl)

/-- Where position `j` of the tile's window lies among the flat pixels. -/
abbrev pix (j : S16384.Idx) : S524288.Idx := (lWin L).view.emb j

theorem val_pix (j : S16384.Idx) : (pix L j 0).val = 32768 * (L 1).val + 16384 * (L 0).val + (j 0).val := by
  show k0_off1 L 0 + 1 * (j 0).val = _
  rw [k0_off1_eq]; simp only [Matrix.cons_val_zero]; omega

theorem set_group (off : Fin 1 → Nat) (hin : ∀ a, off a + S16.size a ≤ S16384.size a) :
    ((outW).access (Rect.unit (s := S16384) off S16.size hin)).set = (Rect.unit (s := S16384) off S16.size hin).set :=
  View.set_slice_whole cc0_scratch2 _

theorem set_oA : (oA).view.set = (Rect.unit (s := S16384) ![0] S8192.size inb_S16384_S8192_0).set := View.set_slice_whole cc0_scratch2 _
theorem set_oB : (oB).view.set = (Rect.unit (s := S16384) ![8192] S8192.size inb_S16384_S8192_8192).set := View.set_slice_whole cc0_scratch2 _

/-- The first half of the output scratch is its positions below 8192; -/
theorem mem_oA (y : S16384.Idx) : y ∈ (oA).view.set ↔ (y 0).val < 8192 := by
  rw [set_oA, Rect.mem_set_unit]
  constructor
  · intro h; have := (h 0).2; simpa using this
  · intro h a; obtain rfl : a = 0 := Subsingleton.elim _ _
    exact ⟨Nat.zero_le _, by simpa using h⟩

/-- the second the others. -/
theorem mem_oB (y : S16384.Idx) : y ∈ (oB).view.set ↔ 8192 ≤ (y 0).val := by
  rw [set_oB, Rect.mem_set_unit]
  constructor
  · intro h; have := (h 0).1; simpa using this
  · intro h a; obtain rfl : a = 0 := Subsingleton.elim _ _
    exact ⟨by simpa using h, by simpa using (y 0).isLt⟩

/-- A position of a group of sixteen. -/
theorem mem_group (off : Fin 1 → Nat) (hin : ∀ a, off a + S16.size a ≤ S16384.size a) (y : S16384.Idx) :
    y ∈ (Rect.unit (s := S16384) off S16.size hin).set ↔ off 0 ≤ (y 0).val ∧ (y 0).val < off 0 + 16 := by
  rw [Rect.mem_set_unit]
  constructor
  · intro h; exact h 0
  · intro h a; obtain rfl : a = 0 := Subsingleton.elim _ _
    exact h

theorem trip1_lt (k : Fin k0_t1_loop.trips) : k.val < 512 := Nat.lt_of_lt_of_le k.isLt k0_t1_abs.2.1
theorem trip2_lt (k : Fin k0_t2_loop.trips) : k.val < 512 := Nat.lt_of_lt_of_le k.isLt k0_t2_abs.2.1

/-- A group of the first loop lies in the first half; -/
theorem group1_sub (k : Fin k0_t1_loop.trips) :
    ((outW).access (Rect.unit (s := S16384) (k0_off3 k) S16.size (k0_off3_inb k))).set ⊆ (oA).view.set := by
  intro y hy
  rw [set_group, mem_group, k0_off3_eq] at hy
  rw [mem_oA]
  have := trip1_lt k
  simp only [Matrix.cons_val_zero] at hy
  omega

/-- of the second, in the second. -/
theorem group2_sub (k : Fin k0_t2_loop.trips) :
    ((outW).access (Rect.unit (s := S16384) (k0_off6 k) S16.size (k0_off6_inb k))).set ⊆ (oB).view.set := by
  intro y hy
  rw [set_group, mem_group, k0_off6_eq] at hy
  rw [mem_oB]
  simp only [Matrix.cons_val_zero] at hy
  omega

end Body

end Cert.Proof.K
-- ==== Proof.Cells.lean ====
/-
  What one tile computes, apart from its run: the table it rewrites, what a trip of its loops looks up and stores, and what the
  copies of the two halves leave in the result.
-/
module

public import proofs.«01_k».proof.Proof.Windows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

section Body

variable (d : Dev nD) (L : grid0.Coords)

/-- Sixteen words read of the window's labels name rows of the table. -/
theorem chk_of (lab : Buf (Elt F) (lLoc d)) (hlab : ∀ n : S524288.Idx, (lab n).toNat < 32)
    (fb : Buf (Elt F) ((thr d L).loc cc0_scratch1)) (hfb : ∀ j : S16384.Idx, fb j = lab (pix L j))
    (off : Fin 1 → Nat) (hin : ∀ a, off a + S16.size a ≤ S16384.size a) :
    k0_chk1 (View.readAt (Elt F) (labW).view (Rect.unit (s := S16384) off S16.size hin).toLoadRect fb) := by
  intro a x
  obtain rfl : a = 0 := Subsingleton.elim _ _
  show (View.readAt (Elt F) (labW).view (Rect.unit (s := S16384) off S16.size hin).toLoadRect fb x).toNat < 32
  simp only [View.readAt_apply, Memref.view_whole, View.read_whole]
  rw [hfb]
  exact hlab _

/-- Place `n` of a group of sixteen. -/
def at16 (n : Nat) (h : n < 16) : S16.Idx := fun a => ⟨n, by rw [Subsingleton.elim a 0]; exact h⟩

/-- A group's store, at a position of the group, -/
theorem store_hit (off : Fin 1 → Nat) (hin : ∀ a, off a + S16.size a ≤ S16384.size a)
    (g : Buf (Elt F) ((thr d L).loc cc0_scratch2)) (w : S16.Idx → Elt F .f32) (y : S16384.Idx) (h1 : off 0 ≤ (y 0).val) (h2 : (y 0).val - off 0 < 16) :
    View.write (Elt F) ((outW).access (Rect.unit (s := S16384) off S16.size hin)) g w Finset.univ y = w (at16 ((y 0).val - off 0) h2) := by
  have h := View.read_writes_cons_hit_of_coords (Val := Elt F) (View.whole cc0_scratch2) g (Rect.unit (s := S16384) off S16.size hin) w []
    (at16 ((y 0).val - off 0) h2) y (fun a => by
      obtain rfl : a = (0 : Fin 1) := Subsingleton.elim (α := Fin 1) _ _
      show (y 0).val = off 0 + 1 * ((y 0).val - off 0)
      omega)
  rwa [View.read_whole] at h

/-- and at any other. -/
theorem store_miss (off : Fin 1 → Nat) (hin : ∀ a, off a + S16.size a ≤ S16384.size a)
    (g : Buf (Elt F) ((thr d L).loc cc0_scratch2)) (w : S16.Idx → Elt F .f32) (y : S16384.Idx) (h : ¬ (off 0 ≤ (y 0).val ∧ (y 0).val < off 0 + 16)) :
    View.write (Elt F) ((outW).access (Rect.unit (s := S16384) off S16.size hin)) g w Finset.univ y = g y := by
  have h := View.read_writes_cons_miss (Val := Elt F) (View.whole cc0_scratch2) g ⟨Rect.unit (s := S16384) off S16.size hin, w⟩ [] y
    (fun hm => h ((mem_group off hin y).mp hm))
  rwa [View.read_whole, View.writes_nil, View.read_whole] at h

/-- What a trip looks up, at place `x` of its group: the modulation of the label there. -/
theorem looked_up (lab : Buf (Elt F) (lLoc d)) (rk : Buf (Elt F) (rLoc d))
    (tb : Buf (Elt F) ((thr d L).loc cc0_scratch0)) (htb : ∀ n : S32.Idx, tb n = gval (rk n))
    (fb : Buf (Elt F) ((thr d L).loc cc0_scratch1)) (hfb : ∀ j : S16384.Idx, fb j = lab (pix L j))
    (off : Fin 1 → Nat) (hin : ∀ a, off a + S16.size a ≤ S16384.size a) (x : S16.Idx) (y : S16384.Idx) (hy : (y 0).val = off 0 + (x 0).val)
    (h : ∀ a x, ((![View.readAt (Elt F) (labW).view (Rect.unit (s := S16384) off S16.size hin).toLoadRect fb] : Fin 1 → IVec S16 32) a x).toNat < S32.size a) :
    loadIdx (View.read (Elt F) ((tabW).access (Rect.whole S32)) tb)
      (![View.readAt (Elt F) (labW).view (Rect.unit (s := S16384) off S16.size hin).toLoadRect fb] : Fin 1 → IVec S16 32) h x = gam lab rk (pix L y) := by
  have hr : View.read (Elt F) ((tabW).access (Rect.whole S32)) tb = tb := Memref.read_access_whole (Elt F) cc0_scratch0 tb
  have hv : View.readAt (Elt F) (labW).view (Rect.unit (s := S16384) off S16.size hin).toLoadRect fb x = lab (pix L y) := by
    simp only [View.readAt_apply, Memref.view_whole, View.read_whole]
    rw [hfb]
    congr 2
    funext a; apply Fin.ext
    obtain rfl : a = 0 := Subsingleton.elim _ _
    show off 0 + 1 * (x 0).val = (y 0).val
    omega
  rw [hr]
  unfold loadIdx gam
  rw [htb]
  congr 2
  funext a; apply Fin.ext
  obtain rfl : a = 0 := Subsingleton.elim _ _
  show (View.readAt (Elt F) (labW).view (Rect.unit (s := S16384) off S16.size hin).toLoadRect fb x).toNat = (lab (pix L y)).toNat % 32
  have hlt : (View.readAt (Elt F) (labW).view (Rect.unit (s := S16384) off S16.size hin).toLoadRect fb x).toNat < 32 := h 0 x
  rw [hv] at hlt ⊢
  exact (Nat.mod_eq_of_lt hlt).symm

/-- A trip's store extends what is done by its group. -/
theorem trip_val (lab : Buf (Elt F) (lLoc d)) (rk : Buf (Elt F) (rLoc d))
    (tb : Buf (Elt F) ((thr d L).loc cc0_scratch0)) (htb : ∀ n : S32.Idx, tb n = gval (rk n))
    (fb : Buf (Elt F) ((thr d L).loc cc0_scratch1)) (hfb : ∀ j : S16384.Idx, fb j = lab (pix L j))
    (off offl : Fin 1 → Nat) (hin : ∀ a, off a + S16.size a ≤ S16384.size a) (hinl : ∀ a, offl a + S16.size a ≤ S16384.size a)
    (b k : Nat) (ho : off 0 = b + 16 * k) (hol : offl 0 = b + 16 * k) (g : Buf (Elt F) ((thr d L).loc cc0_scratch2))
    (hg : ∀ j : S16384.Idx, b ≤ (j 0).val → (j 0).val < b + 16 * k → g j = gam lab rk (pix L j))
    (h : ∀ a x, ((![View.readAt (Elt F) (labW).view (Rect.unit (s := S16384) offl S16.size hinl).toLoadRect fb] : Fin 1 → IVec S16 32) a x).toNat < S32.size a)
    (j : S16384.Idx) (hb : b ≤ (j 0).val) (hj : (j 0).val < b + 16 * (k + 1)) :
    View.write (Elt F) ((outW).access (Rect.unit (s := S16384) off S16.size hin)) g
      (loadIdx (View.read (Elt F) ((tabW).access (Rect.whole S32)) tb)
        (![View.readAt (Elt F) (labW).view (Rect.unit (s := S16384) offl S16.size hinl).toLoadRect fb] : Fin 1 → IVec S16 32) h) Finset.univ j
      = gam lab rk (pix L j) := by
  by_cases hk : b + 16 * k ≤ (j 0).val
  · rw [store_hit d L off hin g _ j (by omega) (by omega)]
    exact looked_up d L lab rk tb htb fb hfb offl hinl _ j (by show (j 0).val = offl 0 + ((j 0).val - off 0); omega) h
  · rw [store_miss d L off hin g _ j (by omega)]
    exact hg j hb (by omega)

/-- The table once both its halves are rewritten: the modulation of each rank. -/
theorem table_val (rk : Buf (Elt F) (rLoc d)) (ft : Buf (Elt F) ((thr d L).loc cc0_scratch0)) (w1 w2 : S16.Idx → Elt F .f32)
    (h1 : ∀ x : S16.Idx, w1 x = gval (rk (at32 (x 0).val))) (h2 : ∀ x : S16.Idx, w2 x = gval (rk (at32 (16 + (x 0).val)))) (n : S32.Idx) :
    (tabW).view.writes (Elt F) ft
      [⟨Rect.unit (s := S32) ![16] S16.size inb_S32_S16_16, w2⟩, ⟨Rect.unit (s := S32) ![0] S16.size inb_S32_S16_0, w1⟩] n = gval (rk n) := by
  have hn : (n 0).val < 32 := (n 0).isLt
  have key : ∀ k (hk : (n 0).val = k), at32 k = n := by
    intro k hk; funext a; apply Fin.ext
    obtain rfl : a = (0 : Fin 1) := Subsingleton.elim (α := Fin 1) _ _
    show k % 32 = (n 0).val
    rw [hk]; exact Nat.mod_eq_of_lt (by omega)
  by_cases h : (n 0).val < 16
  · have e1 := View.read_writes_cons_miss_of_axis (Val := Elt F) (View.whole cc0_scratch0) ft ⟨Rect.unit (s := S32) ![16] S16.size inb_S32_S16_16, w2⟩
      [⟨Rect.unit (s := S32) ![0] S16.size inb_S32_S16_0, w1⟩] n (0 : Fin 1) 16 16 rfl rfl rfl (Or.inl h)
    have e2 := View.read_writes_cons_hit_of_coords (Val := Elt F) (View.whole cc0_scratch0) ft (Rect.unit (s := S32) ![0] S16.size inb_S32_S16_0) w1 []
      (at16 (n 0).val h) n (fun a => by
        obtain rfl : a = (0 : Fin 1) := Subsingleton.elim (α := Fin 1) _ _
        show (n 0).val = 0 + 1 * (n 0).val
        omega)
    rw [e2, View.read_whole, h1] at e1
    exact e1.trans (congrArg (fun i => gval (rk i)) (key _ rfl))
  · have e2 := View.read_writes_cons_hit_of_coords (Val := Elt F) (View.whole cc0_scratch0) ft (Rect.unit (s := S32) ![16] S16.size inb_S32_S16_16) w2
      [⟨Rect.unit (s := S32) ![0] S16.size inb_S32_S16_0, w1⟩]
      (at16 ((n 0).val - 16) (by omega)) n (fun a => by
        obtain rfl : a = (0 : Fin 1) := Subsingleton.elim (α := Fin 1) _ _
        show (n 0).val = 16 + 1 * ((n 0).val - 16)
        omega)
    rw [View.read_whole, h2] at e2
    exact e2.trans (congrArg (fun i => gval (rk i)) (key _ (by show (n 0).val = 16 + ((n 0).val - 16); omega)))

/-- What a load of sixteen of the table reads. -/
theorem table_read (rk ft : Buf (Elt F) ((thr d L).loc cc0_scratch0)) (off : Fin 1 → Nat) (hin : ∀ a, off a + S16.size a ≤ S32.size a)
    (x : S16.Idx) (k : Nat) (hk : off 0 + (x 0).val = k) (h : ft (at32 k) = rk (at32 k)) :
    View.readAt (Elt F) (tabW).view (Rect.unit (s := S32) off S16.size hin).toLoadRect ft x = rk (at32 k) := by
  have hb := hin 0
  have hx : (x 0).val < 16 := (x 0).isLt
  have e : S32.size 0 = 32 := rfl
  have e' : S16.size 0 = 16 := rfl
  simp only [View.readAt_apply, Memref.view_whole, View.read_whole]
  rw [← h]
  congr 1
  funext a; apply Fin.ext
  obtain rfl : a = (0 : Fin 1) := Subsingleton.elim (α := Fin 1) _ _
  show off 0 + 1 * (x 0).val = k % 32
  rw [Nat.mod_eq_of_lt (by omega)]; omega

/-- What a half's copy leaves in its window of the result, where the half holds the window's modulation. -/
theorem sent_val (lab : Buf (Elt F) (lLoc d)) (rk : Buf (Elt F) (rLoc d)) (f0 : Buf (Elt F) (gLoc d))
    (offg offo : Fin 1 → Nat) (hing : ∀ a, offg a + S8192.size a ≤ S524288.size a) (hino : ∀ a, offo a + S8192.size a ≤ S16384.size a)
    (hoff : offg 0 = 32768 * (L 1).val + 16384 * (L 0).val + offo 0)
    (g : Buf (Elt F) ((thr d L).loc cc0_scratch2))
    (hg : ∀ j : S16384.Idx, offo 0 ≤ (j 0).val → (j 0).val < offo 0 + 8192 → g j = gam lab rk (pix L j))
    (n : S524288.Idx) (hn : n ∈ ((gW).slice (Rect.unit (s := S524288) offg S8192.size hing) (fun _ => rfl)).view.set) :
    ((gW).slice (Rect.unit (s := S524288) offg S8192.size hing) (fun _ => rfl)).view.writes (Elt F) f0
      [⟨Rect.whole S8192, View.read (Elt F) ((outW).slice (Rect.unit (s := S16384) offo S8192.size hino) (fun _ => rfl)).view g⟩] n = gam lab rk n := by
  obtain ⟨y, -, rfl⟩ := Finset.mem_map.mp hn
  have e := View.read_writes_cons_hit_of_coords (Val := Elt F) ((gW).slice (Rect.unit (s := S524288) offg S8192.size hing) (fun _ => rfl)).view f0
    (Rect.whole S8192) (View.read (Elt F) ((outW).slice (Rect.unit (s := S16384) offo S8192.size hino) (fun _ => rfl)).view g) [] y y
    (fun a => by show (y a).val = 0 + 1 * (y a).val; omega)
  have hy : (y 0).val < 8192 := (y 0).isLt
  have e2 : View.read (Elt F) ((outW).slice (Rect.unit (s := S16384) offo S8192.size hino) (fun _ => rfl)).view g y
      = g (((outW).slice (Rect.unit (s := S16384) offo S8192.size hino) (fun _ => rfl)).view.emb y) := View.read_apply ..
  rw [e2, View.read_apply, cast_eq] at e
  rw [e]
  rw [hg]
  rotate_left
  · show offo 0 ≤ offo 0 + 1 * (y 0).val; omega
  · show offo 0 + 1 * (y 0).val < offo 0 + 8192; omega
  · refine congrArg (gam lab rk) ?_
    funext a; apply Fin.ext
    obtain rfl : a = (0 : Fin 1) := Subsingleton.elim (α := Fin 1) _ _
    rw [val_pix]
    show _ + (offo 0 + 1 * (y 0).val) = offg 0 + 1 * (y 0).val
    omega

theorem trips1 : k0_t1_loop.trips = 512 := by decide +kernel
theorem trips2 : k0_t2_loop.trips = 512 := by decide +kernel

theorem offA : k0_off4 L 0#32 0 = 32768 * (L 1).val + 16384 * (L 0).val + (![0] : Fin 1 → Nat) 0 := by
  have h := congrFun (k0_off4_eq L 0) 0
  simpa using h
theorem offB : k0_off4 L 8192#32 0 = 32768 * (L 1).val + 16384 * (L 0).val + (![8192] : Fin 1 → Nat) 0 := by
  have h := congrFun (k0_off4_eq L 1) 0
  simpa using h

/-- The first half's copy leaves the modulation, -/
theorem sentA (lab : Buf (Elt F) (lLoc d)) (rk : Buf (Elt F) (rLoc d)) (f0 : Buf (Elt F) (gLoc d)) (g : Buf (Elt F) ((thr d L).loc cc0_scratch2))
    (hg : ∀ j : S16384.Idx, (j 0).val < 8192 → g j = gam lab rk (pix L j)) :
    ((gA L).view.loc (thr d L) ↦[(gA L).view.set]{fullShare} (gA L).view.writes (Elt F) f0 [⟨Rect.whole S8192, View.read (Elt F) (oA).view g⟩] : sProp 𝕄)
      = ((gA L).view.loc (thr d L) ↦[(gA L).view.set]{fullShare} gam lab rk) :=
  pointsTo_congr fun n hn => sent_val d L lab rk f0 (k0_off4 L 0#32) ![0] (k0_off4_inb L 0) inb_S16384_S8192_0
    (offA L) g (fun j _ hj => hg j (by simpa using hj)) n hn

/-- and so does the second's. -/
theorem sentB (lab : Buf (Elt F) (lLoc d)) (rk : Buf (Elt F) (rLoc d)) (f0 : Buf (Elt F) (gLoc d)) (g : Buf (Elt F) ((thr d L).loc cc0_scratch2))
    (hg : ∀ j : S16384.Idx, 8192 ≤ (j 0).val → (j 0).val < 8192 + 8192 → g j = gam lab rk (pix L j)) :
    ((gB L).view.loc (thr d L) ↦[(gB L).view.set]{fullShare} (gB L).view.writes (Elt F) f0 [⟨Rect.whole S8192, View.read (Elt F) (oB).view g⟩] : sProp 𝕄)
      = ((gB L).view.loc (thr d L) ↦[(gB L).view.set]{fullShare} gam lab rk) :=
  pointsTo_congr fun n hn => sent_val d L lab rk f0 (k0_off4 L 8192#32) ![8192] (k0_off4_inb L 1) inb_S16384_S8192_8192
    (offB L) g (fun j hb hj => hg j (by simpa using hb) (by simpa using hj)) n hn

end Body

end Cert.Proof.K
-- ==== Proof.Tile.lean ====
/-
  One tile's run: it fetches the ranks table and its window of the labels, turns the table into the table of modulations,
  looks the window's pixels up a group of sixteen at a time, and sends the two halves of what it found to the result.
-/
module

public import proofs.«01_k».proof.Proof.Cells

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

section Body

variable (d : Dev nD) (L : grid0.Coords)

abbrev cell8 : GSem nD τ sig := (thr d L, .dma cc0_scratch3.sem)
abbrev cell9 : GSem nD τ sig := (thr d L, .dma cc0_scratch4.sem)
abbrev cell10 : GSem nD τ sig := (thr d L, .dma cc0_scratch5.sem)

/-- What the first loop keeps: the table of modulations, the labels of the window, and in the first half of the output
    scratch the modulations of the groups of sixteen done so far. -/
def inv1 (lab : Buf (Elt F) (lLoc d)) (rk : Buf (Elt F) (rLoc d)) (k : Nat) (_ : BitVec 32) : sProp 𝕄 :=
  iprop((∃ tb, ⌜∀ n : S32.Idx, tb n = gval (rk n)⌝ ∗ ((tabW).view.loc (thr d L) ↦{fullShare} tb))
    ∗ (∃ fb, ⌜∀ j : S16384.Idx, fb j = lab (pix L j)⌝ ∗ ((labW).view.loc (thr d L) ↦{fullShare} fb))
    ∗ ∃ g, ⌜∀ j : S16384.Idx, (j 0).val < 16 * k → g j = gam lab rk (pix L j)⌝
      ∗ ((oA).view.loc (thr d L) ↦[(oA).view.set]{fullShare} g))

/-- What the second loop keeps: the same, of the second half. -/
def inv2 (lab : Buf (Elt F) (lLoc d)) (rk : Buf (Elt F) (rLoc d)) (k : Nat) (_ : BitVec 32) : sProp 𝕄 :=
  iprop((∃ tb, ⌜∀ n : S32.Idx, tb n = gval (rk n)⌝ ∗ ((tabW).view.loc (thr d L) ↦{fullShare} tb))
    ∗ (∃ fb, ⌜∀ j : S16384.Idx, fb j = lab (pix L j)⌝ ∗ ((labW).view.loc (thr d L) ↦{fullShare} fb))
    ∗ ∃ g, ⌜∀ j : S16384.Idx, 8192 ≤ (j 0).val → (j 0).val < 8192 + 16 * k → g j = gam lab rk (pix L j)⌝
      ∗ ((oB).view.loc (thr d L) ↦[(oB).view.set]{fullShare} g))

set_option maxRecDepth 20000 in
set_option maxHeartbeats 4000000 in
theorem core_run (lab : Buf (Elt F) (lLoc d)) (rk : Buf (Elt F) (rLoc d)) (q : PosShare TreeShare) (f0 : Buf (Elt F) (gLoc d))
    (ft : Buf (Elt F) ((thr d L).loc cc0_scratch0)) (fl : Buf (Elt F) ((thr d L).loc cc0_scratch1)) (fo : Buf (Elt F) ((thr d L).loc cc0_scratch2))
    (O : CellTallies nD τ sig (HIx 1)) (W : Waits sig (HIx 1))
    (hlab : ∀ n : S524288.Idx, (lab n).toNat < 32)
    (_plan : Transfers.BatchOf (thr d L) (SemLoc.dma (sig := sig) cc0_scratch5.sem) 2) :
    iprop((Transfers.MayWaits (thr d L) (none : HIx 1) O : sProp 𝕄)
        ∗ ((lWin L).view.loc (thr d L) ↦[(lWin L).view.set]{fullShare} lab)
        ∗ ((rW).view.loc (thr d L) ↦{q} rk)
        ∗ ((gA L).view.loc (thr d L) ↦[(gA L).view.set]{fullShare} f0)
        ∗ ((gB L).view.loc (thr d L) ↦[(gB L).view.set]{fullShare} f0)
        ∗ ((tabW).view.loc (thr d L) ↦{fullShare} ft)
        ∗ ((labW).view.loc (thr d L) ↦{fullShare} fl)
        ∗ ((oA).view.loc (thr d L) ↦[(oA).view.set]{fullShare} fo)
        ∗ ((oB).view.loc (thr d L) ↦[(oB).view.set]{fullShare} fo)
        ∗ semVal (cell8 d L) 0 ∗ semVal (cell9 d L) 0 ∗ semVal (cell10 d L) 0 ∗ owes (thr d L) O W)
      ⊢ wp frame (wpE (defs₀ (F := F)) 𝒱₀ (thr d L) none) Set.univ
          (cc0__sc_gamma_body L lW (Memref.isWhole_whole _) rW (Memref.isWhole_whole _) gW (Memref.isWhole_whole _)
            tabW (Memref.isWhole_whole _) labW (Memref.isWhole_whole _) outW (Memref.isWhole_whole _) cc0_scratch3 cc0_scratch4 cc0_scratch5)
          fun _ => iprop(
        ((lWin L).view.loc (thr d L) ↦[(lWin L).view.set]{fullShare} lab)
        ∗ ((rW).view.loc (thr d L) ↦{q} rk)
        ∗ ((gA L).view.loc (thr d L) ↦[(gA L).view.set]{fullShare} gam lab rk)
        ∗ ((gB L).view.loc (thr d L) ↦[(gB L).view.set]{fullShare} gam lab rk)
        ∗ (∃ f, (tabW).view.loc (thr d L) ↦{fullShare} f)
        ∗ (∃ f, (labW).view.loc (thr d L) ↦{fullShare} f)
        ∗ (∃ f, (oA).view.loc (thr d L) ↦[(oA).view.set]{fullShare} f)
        ∗ (∃ f, (oB).view.loc (thr d L) ↦[(oB).view.set]{fullShare} f)
        ∗ semVal (cell8 d L) 0 ∗ semVal (cell9 d L) 0 ∗ semVal (cell10 d L) 0
        ∗ ∃ W', ⌜∀ p ∈ W', p ∈ W ∨ p.2 = none⌝ ∗ owes (thr d L) O W') := by
  rw [cc0__sc_gamma_body_eq_skeleton]; unfold cc0__sc_gamma_body_skel
  rw [k0_part1_eq_skeleton]; unfold k0_part1_skel
  iintro ⟨#Hmw, Hl, Hr, HgA, HgB, Ht, Hlab, HoA, HoB, H8, H9, H10, HO⟩
  sl_exec
  sl_rw [Prog.bind_assoc]
  sl_rw [Prog.bind_assoc]
  sl_for (inv1 d L lab rk) $$ [Ht Hlab HoA]
  case region =>
    intro k _
    unfold inv1
    iintro ⟨⟨%tb, %htb, Ht⟩, ⟨%fb, %hfb, Hlab⟩, %g, %hg, HoA⟩
    have hchk := chk_of d L lab hlab fb hfb (k0_off2 k) (k0_off2_inb k)
    have hsub := group1_sub k
    sl_exec
    iapply (SparseCore.wp_vectorLoadIdx 𝒱₀ (thr d L) none Set.univ (base := tabW) (S := Finset.univ) (q := fullShare) (Finset.subset_univ _)) $$ Ht; iintro Ht
    sl_exec
    sl_step
    isplitl [Ht]
    · iexists tb; isplitr; · ipureintro; exact htb
      iexact Ht
    isplitl [Hlab]
    · iexists fb; isplitr; · ipureintro; exact hfb
      iexact Hlab
    iexists _; isplitr
    swap; · iexact HoA
    ipureintro
    intro j hj
    exact trip_val d L lab rk tb htb fb hfb (k0_off3 k) (k0_off2 k) (k0_off3_inb k) (k0_off2_inb k) 0 k.val
      (by rw [k0_off3_eq]; simp) (by rw [k0_off2_eq]; simp) g (fun j _ hj => hg j (by omega)) hchk j (Nat.zero_le _) (by omega)
  · unfold inv1
    isplitl [Ht]
    · iexists _; isplitr
      swap; · iexact Ht
      ipureintro
      intro n
      refine table_val d L rk _ _ _ ?_ ?_ n
      · intro x
        show gval (F := F) _ = _
        rw [table_read d L rk _ ![0] inb_S32_S16_0 x (x 0).val (by simp)]
        exact congrFun (View.write_whole_univ (Val := Elt F) cc0_scratch0 ft _) _
      · intro x
        show gval (F := F) (core_run.sl.v11 d L rk ft x) = _
        unfold core_run.sl.v11
        rw [table_read d L rk _ ![16] inb_S32_S16_16 x (16 + (x 0).val) (by simp)]
        exact congrFun (View.write_whole_univ (Val := Elt F) cc0_scratch0 ft _) _
    isplitl [Hlab]
    · iexists _; isplitr
      swap; · iexact Hlab
      ipureintro
      intro j
      exact congrFun (View.write_whole_univ (Val := Elt F) cc0_scratch1 fl _) j
    iexists _; isplitr
    swap; · iexact HoA
    ipureintro
    intro j hj; omega
  iintro %_ HI
  unfold inv1
  icases HI with ⟨⟨%tb, %htb, Ht⟩, ⟨%fb, %hfb, Hlab⟩, %g, %hg, HoA⟩
  sl_exec
  have hgA : ∀ j : S16384.Idx, (j 0).val < 8192 → g j = gam lab rk (pix L j) := fun j hj => hg j (by
    have e : Scf.trips k0_t1_loop.lb k0_t1_loop.ub k0_t1_loop.st = 512 := trips1
    omega)
  sl_rw [Prog.bind_assoc]
  sl_for (inv2 d L lab rk) $$ [Ht Hlab HoB]
  case region =>
    intro k _
    unfold inv2
    iintro ⟨⟨%tb, %htb, Ht⟩, ⟨%fb, %hfb, Hlab⟩, %g, %hg, HoB⟩
    have hchk : k0_chk2 _ := chk_of d L lab hlab fb hfb (k0_off5 k) (k0_off5_inb k)
    have hsub := group2_sub k
    sl_exec
    iapply (SparseCore.wp_vectorLoadIdx 𝒱₀ (thr d L) none Set.univ (base := tabW) (S := Finset.univ) (q := fullShare) (Finset.subset_univ _)) $$ Ht; iintro Ht
    sl_exec
    sl_step
    isplitl [Ht]
    · iexists tb; isplitr; · ipureintro; exact htb
      iexact Ht
    isplitl [Hlab]
    · iexists fb; isplitr; · ipureintro; exact hfb
      iexact Hlab
    iexists _; isplitr
    swap; · iexact HoB
    ipureintro
    intro j hb hj
    exact trip_val d L lab rk tb htb fb hfb (k0_off6 k) (k0_off5 k) (k0_off6_inb k) (k0_off5_inb k) 8192 k.val
      (by rw [k0_off6_eq]; simp; omega) (by rw [k0_off5_eq]; simp; omega) g hg hchk j hb hj
  · unfold inv2
    isplitl [Ht]
    · iexists tb; isplitr; · ipureintro; exact htb
      iexact Ht
    isplitl [Hlab]
    · iexists fb; isplitr; · ipureintro; exact hfb
      iexact Hlab
    iexists _; isplitr
    swap; · iexact HoB
    ipureintro
    intro j hb hj; omega
  iintro %_ HI
  unfold inv2
  icases HI with ⟨⟨%tb2, %htb2, Ht⟩, ⟨%fb2, %hfb2, Hlab⟩, %g2, %hg2, HoB⟩
  sl_exec
  have hgB : ∀ j : S16384.Idx, 8192 ≤ (j 0).val → (j 0).val < 8192 + 8192 → g2 j = gam lab rk (pix L j) := fun j hb hj => hg2 j hb (by
    have e : Scf.trips k0_t2_loop.lb k0_t2_loop.ub k0_t2_loop.st = 512 := trips2
    omega)
  sl_step
  isplitl [Hl]; · iexact Hl
  isplitl [Hr]; · iexact Hr
  isplitl [HgA]; · rw [← sentA d L lab rk f0 g hgA]; iexact HgA
  isplitl [HgB]; · rw [← sentB d L lab rk f0 g2 hgB]; iexact HgB
  isplitl [Ht]; · iexists tb2; iexact Ht
  isplitl [Hlab]; · iexists fb2; iexact Hlab
  isplitl [HoA]; · iexists g; iexact HoA
  isplitl [HoB]; · iexists g2; iexact HoB
  isplitl [H8]; · iexact H8
  isplitl [H9]; · iexact H9
  isplitl [H10]; · iexact H10
  iexists _; isplitr
  swap; · iexact HO
  ipureintro
  intro p hp
  simp only [Finset.mem_insert] at hp
  rcases hp with rfl | rfl | rfl | rfl | h
  · exact Or.inr rfl
  · exact Or.inr rfl
  · exact Or.inr rfl
  · exact Or.inr rfl
  · exact Or.inl h

end Body

end Cert.Proof.K
-- ==== Proof.Deal.lean ====
/-
  How the pixels are dealt: SparseCore `c` and its tile `i` take the 16384 pixels from `32768 i + 16384 c`.
-/
module

public import proofs.«01_k».proof.Proof.Windows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-! ## The pixels of a tile -/

/-- The first pixel of tile `i` of SparseCore `c`. -/
abbrev base (c : Fin 2) (i : Fin 16) : Nat := 32768 * i.val + 16384 * c.val

/-- The pixels of tile `i` of SparseCore `c`; -/
def tSet (c : Fin 2) (i : Fin 16) : Finset S524288.Idx :=
  Finset.univ.filter fun n => base c i ≤ (n 0).val ∧ (n 0).val < base c i + 16384

/-- and of SparseCore `c`. -/
def cSet (c : Fin 2) : Finset S524288.Idx := Finset.univ.biUnion (tSet c)

theorem mem_tSet (c : Fin 2) (i : Fin 16) (n : S524288.Idx) : n ∈ tSet c i ↔ base c i ≤ (n 0).val ∧ (n 0).val < base c i + 16384 := by
  unfold tSet; simp only [Finset.mem_filter, Finset.mem_univ, true_and]

/-- A pixel has one SparseCore and one tile. -/
theorem tSet_unique {c c' : Fin 2} {i i' : Fin 16} {n : S524288.Idx} (h : n ∈ tSet c i) (h' : n ∈ tSet c' i') : c = c' ∧ i = i' := by
  rw [mem_tSet] at h h'
  simp only [base] at h h'
  have h1 := c.isLt; have h2 := c'.isLt
  exact ⟨Fin.ext (by omega), Fin.ext (by omega)⟩

theorem tSet_disjoint (c : Fin 2) : ∀ i ∈ (Finset.univ : Finset (Fin 16)), ∀ j ∈ (Finset.univ : Finset (Fin 16)), i ≠ j → Disjoint (tSet c i) (tSet c j) :=
  fun _ _ _ _ h => Finset.disjoint_left.mpr fun _ hi hj => h (tSet_unique hi hj).2

theorem cSet_disjoint : ∀ c ∈ (Finset.univ : Finset (Fin 2)), ∀ c' ∈ (Finset.univ : Finset (Fin 2)), c ≠ c' → Disjoint (cSet c) (cSet c') := by
  intro c _ c' _ h
  refine Finset.disjoint_left.mpr fun n hn hn' => ?_
  obtain ⟨i, -, hi⟩ := Finset.mem_biUnion.mp hn
  obtain ⟨j, -, hj⟩ := Finset.mem_biUnion.mp hn'
  exact h (tSet_unique hi hj).1

/-- Every pixel is dealt. -/
theorem cSet_cover : (Finset.univ : Finset (Fin 2)).biUnion cSet = Finset.univ := by
  refine Finset.eq_univ_iff_forall.mpr fun n => ?_
  have hn : (n 0).val < 524288 := (n 0).isLt
  refine Finset.mem_biUnion.mpr ⟨⟨(n 0).val / 16384 % 2, by omega⟩, Finset.mem_univ _, Finset.mem_biUnion.mpr
    ⟨⟨(n 0).val / 32768, by omega⟩, Finset.mem_univ _, ?_⟩⟩
  rw [mem_tSet]
  show 32768 * ((n 0).val / 32768) + 16384 * ((n 0).val / 16384 % 2) ≤ _ ∧ _ < 32768 * ((n 0).val / 32768) + 16384 * ((n 0).val / 16384 % 2) + 16384
  omega

/-! ## The windows of a tile's kernel are those pixels -/

/-- The coordinates of tile `i` of SparseCore `c` in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_zero (c : Fin (grid0.bound 0)) (s : Fin (grid0.bound 1)) : coordsV c s 0 = c := rfl
theorem coordsV_one (c : Fin (grid0.bound 0)) (s : Fin (grid0.bound 1)) : coordsV c s 1 = s := rfl

section
variable (c : Fin (grid0.bound 0)) (s : Fin (grid0.bound 1))

/-- The labels' window is the tile's pixels; -/
theorem set_lWin : (lWin (coordsV c s)).view.set = tSet c s := by
  have e : (lWin (coordsV c s)).view.set = (Rect.unit (s := S524288) (k0_off1 (coordsV c s)) S16384.size (k0_off1_inb _)).set :=
    View.set_slice_whole main_v0_scv _
  rw [e]
  apply Finset.ext
  intro n
  rw [Rect.mem_set_unit]
  refine Iff.trans ?_ (mem_tSet c s n).symm
  have ho : k0_off1 (coordsV c s) 0 = base c s := congrFun (k0_off1_eq (coordsV c s)) 0
  rw [← ho]
  constructor
  · intro h; exact h 0
  · intro h a; obtain rfl : a = (0 : Fin 1) := Subsingleton.elim (α := Fin 1) _ _
    exact h

theorem mem_gA (n : S524288.Idx) : n ∈ (gA (coordsV c s)).view.set ↔ base c s ≤ (n 0).val ∧ (n 0).val < base c s + 8192 := by
  have e : (gA (coordsV c s)).view.set = (Rect.unit (s := S524288) (k0_off4 (coordsV c s) 0#32) S8192.size (k0_off4_inb (coordsV c s) 0)).set :=
    View.set_slice_whole main_v2_scv _
  rw [e, Rect.mem_set_unit]
  have ho : k0_off4 (coordsV c s) 0#32 0 = base c s := by
    have h := congrFun (k0_off4_eq (coordsV c s) 0) 0
    simpa [coordsV_zero, coordsV_one] using h
  rw [← ho]
  constructor
  · intro h; exact h 0
  · intro h a; obtain rfl : a = (0 : Fin 1) := Subsingleton.elim (α := Fin 1) _ _
    exact h

theorem mem_gB (n : S524288.Idx) : n ∈ (gB (coordsV c s)).view.set ↔ base c s + 8192 ≤ (n 0).val ∧ (n 0).val < base c s + 8192 + 8192 := by
  have e : (gB (coordsV c s)).view.set = (Rect.unit (s := S524288) (k0_off4 (coordsV c s) 8192#32) S8192.size (k0_off4_inb (coordsV c s) 1)).set :=
    View.set_slice_whole main_v2_scv _
  rw [e, Rect.mem_set_unit]
  have ho : k0_off4 (coordsV c s) 8192#32 0 = base c s + 8192 := by
    have h := congrFun (k0_off4_eq (coordsV c s) 1) 0
    simpa [coordsV_zero, coordsV_one] using h
  rw [← ho]
  constructor
  · intro h; exact h 0
  · intro h a; obtain rfl : a = (0 : Fin 1) := Subsingleton.elim (α := Fin 1) _ _
    exact h

/-- the two halves of the result's window are disjoint, -/
theorem gA_gB_disjoint : Disjoint (gA (coordsV c s)).view.set (gB (coordsV c s)).view.set :=
  Finset.disjoint_left.mpr fun n ha hb => by
    have h1 := (mem_gA c s n).mp ha
    have h2 := (mem_gB c s n).mp hb
    omega

/-- and together the tile's pixels. -/
theorem gA_gB_union : (gA (coordsV c s)).view.set ∪ (gB (coordsV c s)).view.set = tSet c s := by
  apply Finset.ext
  intro n
  rw [Finset.mem_union]
  refine (or_congr (mem_gA c s n) (mem_gB c s n)).trans ((mem_tSet c s n).trans ?_).symm
  omega

end

/-- The halves of the output scratch are disjoint, -/
theorem oA_oB_disjoint : Disjoint (oA).view.set (oB).view.set :=
  Finset.disjoint_left.mpr fun n ha hb => by
    have h1 := (mem_oA n).mp ha
    have h2 := (mem_oB n).mp hb
    omega

/-- and together the whole. -/
theorem oA_oB_union : (oA).view.set ∪ (oB).view.set = Finset.univ := by
  refine Finset.eq_univ_iff_forall.mpr fun n => ?_
  rw [Finset.mem_union]
  refine (Nat.lt_or_ge (n 0).val 8192).imp (mem_oA n).mpr (mem_oB n).mpr

end Cert.Proof.K
-- ==== Proof.Launch.lean ====
/-
  The SparseCore call as the launch theorem asks for it: what the call takes and hands back, one tile's obligation, and how a
  SparseCore's share is dealt to its tiles.
-/
module

public import proofs.«01_k».proof.Proof.Tile
public import proofs.«01_k».proof.Proof.Deal

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

variable (lab : (d : Dev nD) → Buf (Elt F) (lLoc d)) (rk : (d : Dev nD) → Buf (Elt F) (rLoc d)) (f0 : (d : Dev nD) → Buf (Elt F) (gLoc d))

/-! ## What the call takes and brings back -/

/-- The share of the ranks table a SparseCore reads at, -/
abbrev cShare (c : Fin 2) : PosShare TreeShare := Transfers.dealOf fullShare (Finset.univ : Finset (Fin 2)) c
/-- and the share one of its tiles does. -/
abbrev tShare (c : Fin 2) (i : Fin 16) : PosShare TreeShare := Transfers.dealOf (cShare c) (Finset.univ : Finset (Fin 16)) i

abbrev lPts (d : Dev nD) (S : Finset S524288.Idx) : sProp 𝕄 := lLoc d ↦[S]{fullShare} lab d
abbrev rPts (d : Dev nD) (q : PosShare TreeShare) : sProp 𝕄 := rLoc d ↦{q} rk d
abbrev gPts (d : Dev nD) (S : Finset S524288.Idx) (f : Buf (Elt F) (gLoc d)) : sProp 𝕄 := gLoc d ↦[S]{fullShare} f

/-- A SparseCore takes its pixels of the labels and of the result and a share of the ranks table, a tile the same of its own
    pixels; each brings back the result at the modulation of each pixel's label. -/
def P : (K (F := F)).Pay (nD := nD) (Val := Elt F) (Name := ℕ) (U := UU) where
  st := fun q d c => match q with
    | 0 => iprop(lPts lab d (cSet (Fin.cast nCore_zero c)) ∗ rPts rk d (cShare (Fin.cast nCore_zero c)) ∗ gPts d (cSet (Fin.cast nCore_zero c)) (f0 d))
  dn := fun q d c => match q with
    | 0 => iprop(lPts lab d (cSet (Fin.cast nCore_zero c)) ∗ rPts rk d (cShare (Fin.cast nCore_zero c))
        ∗ gPts d (cSet (Fin.cast nCore_zero c)) (gam (lab d) (rk d)))
  go := fun q d c i => match q with
    | 0 => iprop(lPts lab d (tSet (Fin.cast nCore_zero c) (Fin.cast nSub_zero i)) ∗ rPts rk d (tShare (Fin.cast nCore_zero c) (Fin.cast nSub_zero i))
        ∗ gPts d (tSet (Fin.cast nCore_zero c) (Fin.cast nSub_zero i)) (f0 d))
  td := fun q d c i => match q with
    | 0 => iprop(lPts lab d (tSet (Fin.cast nCore_zero c) (Fin.cast nSub_zero i)) ∗ rPts rk d (tShare (Fin.cast nCore_zero c) (Fin.cast nSub_zero i))
        ∗ gPts d (tSet (Fin.cast nCore_zero c) (Fin.cast nSub_zero i)) (gam (lab d) (rk d)))
  x := fun _ _ => iprop(emp)

instance P_storable : (P lab rk f0).IsStorable where
  st q d c := match q with
    | 0 => (inferInstance : BI.Storable (upEmb : UEmb _ 𝕄) iprop(lPts lab d (cSet (Fin.cast nCore_zero c)) ∗ rPts rk d (cShare (Fin.cast nCore_zero c))
        ∗ gPts d (cSet (Fin.cast nCore_zero c)) (f0 d)))
  dn q d c := match q with
    | 0 => (inferInstance : BI.Storable (upEmb : UEmb _ 𝕄) iprop(lPts lab d (cSet (Fin.cast nCore_zero c)) ∗ rPts rk d (cShare (Fin.cast nCore_zero c))
        ∗ gPts d (cSet (Fin.cast nCore_zero c)) (gam (lab d) (rk d))))
  go q d c i := match q with
    | 0 => (inferInstance : BI.Storable (upEmb : UEmb _ 𝕄)
        iprop(lPts lab d (tSet (Fin.cast nCore_zero c) (Fin.cast nSub_zero i)) ∗ rPts rk d (tShare (Fin.cast nCore_zero c) (Fin.cast nSub_zero i))
          ∗ gPts d (tSet (Fin.cast nCore_zero c) (Fin.cast nSub_zero i)) (f0 d)))
  td q d c i := match q with
    | 0 => (inferInstance : BI.Storable (upEmb : UEmb _ 𝕄)
        iprop(lPts lab d (tSet (Fin.cast nCore_zero c) (Fin.cast nSub_zero i)) ∗ rPts rk d (tShare (Fin.cast nCore_zero c) (Fin.cast nSub_zero i))
          ∗ gPts d (tSet (Fin.cast nCore_zero c) (Fin.cast nSub_zero i)) (gam (lab d) (rk d))))

/-! ## One tile -/

section Tile

variable (d : Dev nD) (L : grid0.Coords)

omit [FloatOps F] [Named F] in
/-- The tile's three transfer semaphores are among its own. -/
theorem ownSems0_V :
    (ownSems0 (V d (cV L) (jV L)) : sProp 𝕄)
      = iprop(semVal (cell8 d L) 0 ∗ semVal (cell9 d L) 0 ∗ semVal (cell10 d L) 0
          ∗ bigSep ((((ownCells (V d (cV L) (jV L))).erase (cell8 d L)).erase (cell9 d L)).erase (cell10 d L)) fun g => semVal g 0) := by
  unfold SparseCore.Cfg.ownSems0
  rw [SparseCore.bigSep_erase' ((mem_ownCells (g := cell8 d L)).mpr ⟨rfl, by
      show (SemLoc.dma cc0_scratch3.sem : SemLoc sig).isScoped .scVector = true; decide⟩),
    SparseCore.bigSep_erase' (Finset.mem_erase.mpr ⟨by simp [cell8, cell9]; decide, (mem_ownCells (g := cell9 d L)).mpr ⟨rfl, by
      show (SemLoc.dma cc0_scratch4.sem : SemLoc sig).isScoped .scVector = true; decide⟩⟩),
    SparseCore.bigSep_erase' (Finset.mem_erase.mpr ⟨by simp [cell9, cell10]; decide, Finset.mem_erase.mpr ⟨by simp [cell8, cell10]; decide,
      (mem_ownCells (g := cell10 d L)).mpr ⟨rfl, by show (SemLoc.dma cc0_scratch5.sem : SemLoc sig).isScoped .scVector = true; decide⟩⟩⟩)]

omit [FloatOps F] [Named F] in
/-- The tile's three scratch buffers are among its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] [Named F] in
/-- The output scratch is its two halves. -/
theorem out_halves (f : Buf (Elt F) ((V d (cV L) (jV L)).loc cc0_scratch2)) :
    ((V d (cV L) (jV L)).loc cc0_scratch2 ↦{fullShare} f : sProp 𝕄)
      ⊢ iprop(((oA).view.loc (thr d L) ↦[(oA).view.set]{fullShare} f) ∗ ((oB).view.loc (thr d L) ↦[(oB).view.set]{fullShare} f)) := by
  have h : ((thr d L).loc cc0_scratch2 ↦[(oA).view.set ∪ (oB).view.set]{fullShare} f : sProp 𝕄) ⊢ _ := (pointsTo_union oA_oB_disjoint).1
  rw [oA_oB_union] at h
  exact h

omit [FloatOps F] [Named F] in
theorem out_join (f g : Buf (Elt F) ((V d (cV L) (jV L)).loc cc0_scratch2)) :
    iprop(((oA).view.loc (thr d L) ↦[(oA).view.set]{fullShare} f) ∗ ((oB).view.loc (thr d L) ↦[(oB).view.set]{fullShare} g))
      ⊢ (iprop(∃ f, (V d (cV L) (jV L)).loc cc0_scratch2 ↦{fullShare} f) : sProp 𝕄) := by
  have h : iprop(((thr d L).loc cc0_scratch2 ↦[(oA).view.set]{fullShare} f) ∗ ((thr d L).loc cc0_scratch2 ↦[(oB).view.set]{fullShare} g))
      ⊢ ((thr d L).loc cc0_scratch2 ↦[(oA).view.set ∪ (oB).view.set]{fullShare} _ : sProp 𝕄) := pointsTo_join oA_oB_disjoint
  rw [oA_oB_union] at h
  iintro H
  iexists _
  iapply h; iexact H

omit [FloatOps F] [Named F] in
/-- A tile's pixels of the result are the two windows it sends to. -/
theorem res_halves (c : Fin (grid0.bound 0)) (s : Fin (grid0.bound 1)) (f : Buf (Elt F) (gLoc d)) :
    (gPts d (tSet c s) f : sProp 𝕄)
      = iprop(((gA (coordsV c s)).view.loc (thr d (coordsV c s)) ↦[(gA (coordsV c s)).view.set]{fullShare} f)
          ∗ ((gB (coordsV c s)).view.loc (thr d (coordsV c s)) ↦[(gB (coordsV c s)).view.set]{fullShare} f)) := by
  have h : (gLoc d ↦[(gA (coordsV c s)).view.set ∪ (gB (coordsV c s)).view.set]{fullShare} f : sProp 𝕄) ⊣⊢ _ := pointsTo_union (gA_gB_disjoint c s)
  rw [gA_gB_union] at h
  exact BI.equiv_iff.mp ⟨h.1, h.2⟩

/-- A tile's run, from what its task takes to what it brings back. -/
theorem tile_body (hF : (K (F := F)).Facts) (hlab : ∀ n : S524288.Idx, (lab d n).toNat < 32) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp
        ∗ (lPts lab d (tSet c s) ∗ rPts rk d (tShare c s) ∗ gPts d (tSet c s) (f0 d))
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0__sc_gamma_body (coordsV c s) lW (Memref.isWhole_whole _) rW (Memref.isWhole_whole _) gW (Memref.isWhole_whole _)
            tabW (Memref.isWhole_whole _) labW (Memref.isWhole_whole _) outW (Memref.isWhole_whole _) cc0_scratch3 cc0_scratch4 cc0_scratch5)
          fun _ => iprop((lPts lab d (tSet c s) ∗ rPts rk d (tShare c s) ∗ gPts d (tSet c s) (gam (lab d) (rk d)))
            ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownSems0_V, ownBufs_V, res_halves, res_halves]
  iintro ⟨#Hlv, -, ⟨Hl, Hr, HgA, HgB⟩, ⟨⟨%ft, Ht⟩, ⟨%fl, Hlab⟩, ⟨%fo, Ho⟩, Hbufs⟩, ⟨H8, H9, H10, Hsems⟩, HO⟩
  ihave Hmw := ((K (F := F)).mayWaits_none (thr := thr d (coordsV c s)) hO) $$ Hlv
  ihave Ho' := (out_halves d (coordsV c s) fo) $$ Ho
  icases Ho' with ⟨HoA, HoB⟩
  iapply (wp_wand_r frame _ Set.univ)
  isplitl [Hmw Hl Hr HgA HgB Ht Hlab HoA HoB H8 H9 H10 HO]
  · iapply (core_run d (coordsV c s) (lab d) (rk d) (tShare c s) (f0 d) ft fl fo O W hlab trivial)
    isplitl [Hmw]; · iexact Hmw
    isplitl [Hl]; · rw [set_lWin]; iexact Hl
    isplitl [Hr]; · iexact Hr
    isplitl [HgA]; · iexact HgA
    isplitl [HgB]; · iexact HgB
    isplitl [Ht]; · iexact Ht
    isplitl [Hlab]; · iexact Hlab
    isplitl [HoA]; · iexact HoA
    isplitl [HoB]; · iexact HoB
    isplitl [H8]; · iexact H8
    isplitl [H9]; · iexact H9
    isplitl [H10]; · iexact H10
    iexact HO
  iintro %_ ⟨Hl, Hr, HgA, HgB, Ht, Hlab, ⟨%oa, HoA⟩, ⟨%ob, HoB⟩, H8, H9, H10, HO⟩
  isplitl [Hl Hr HgA HgB]
  · rw [set_lWin]
    isplitl [Hl]; · iexact Hl
    isplitl [Hr]; · iexact Hr
    isplitl [HgA]; · iexact HgA
    iexact HgB
  isplitl [Ht Hlab HoA HoB Hbufs]
  · isplitl [Ht]; · iexact Ht
    isplitl [Hlab]; · iexact Hlab
    isplitl [HoA HoB]
    · iapply (out_join d (coordsV c s) oa ob)
      isplitl [HoA]; · iexact HoA
      iexact HoB
    iexact Hbufs
  isplitl [H8 H9 H10 Hsems]
  · isplitl [H8]; · iexact H8
    isplitl [H9]; · iexact H9
    isplitl [H10]; · iexact H10
    iexact Hsems
  iexact HO

end Tile

/-! ## The launch theorem's obligations -/

theorem defs₀_vector (c : Fin τ.nSC) (s : Fin τ.nSub) :
    defs₀ (F := F) (.scVector c s) 0 ()
      = SparseCore.onTile hcore0 hsub0 (fun c s => cc0__sc_gamma_body (coordsV c s)
          lW (Memref.isWhole_whole _) rW (Memref.isWhole_whole _) gW (Memref.isWhole_whole _)
          tabW (Memref.isWhole_whole _) labW (Memref.isWhole_whole _) outW (Memref.isWhole_whole _) cc0_scratch3 cc0_scratch4 cc0_scratch5) ⟨⟩ c s := rfl

omit [FloatOps F] [Named F] in
/-- A tile that recorded only waits of its own recorded none that the launch forbids. -/
theorem own_waits {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  refine sep_mono .rfl (sep_mono .rfl (sep_mono .rfl ?_))
  iintro ⟨%W', %h, HO⟩
  iexists W'; isplitr
  · ipureintro; intro p hp; exact (h p hp).imp id Or.inl
  iexact HO

/-- Every tile's obligation. -/
theorem tileObl (hF : (K (F := F)).Facts) (hlab : ∀ d, ∀ n : S524288.Idx, (lab d n).toNat < 32) :
    (K (F := F)).TileObl (D (F := F)) 𝒱 (P lab rk f0) v₀ 0 := by
  intro d c i O W hO _ _
  simp only [show (P lab rk f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body lab rk f0 d hF (hlab d) ⟨_, hc.1⟩ ⟨_, hc.2⟩ O W hO).trans (wp_mono frame _ _ fun _ => own_waits)

omit [FloatOps F] [Named F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] [Named F] in
/-- A SparseCore's pixels are its tiles' pixels, -/
theorem lPts_tiles (d : Dev nD) (c : Fin 2) : (lPts lab d (cSet c) : sProp 𝕄) = bigSep Finset.univ fun i => lPts lab d (tSet c i) := by
  rw [← pointsTo_biUnion Finset.univ (ℓ := lLoc d) (tSet c) (tSet_disjoint c), cSet]
omit [FloatOps F] [Named F] in
theorem gPts_tiles (d : Dev nD) (c : Fin 2) (f : Buf (Elt F) (gLoc d)) : (gPts d (cSet c) f : sProp 𝕄) = bigSep Finset.univ fun i => gPts d (tSet c i) f := by
  rw [← pointsTo_biUnion Finset.univ (ℓ := gLoc d) (tSet c) (tSet_disjoint c), cSet]
omit [FloatOps F] [Named F] in
/-- and its share of the ranks table is its tiles' shares. -/
theorem rPts_tiles (d : Dev nD) (c : Fin 2) : (rPts rk d (cShare c) : sProp 𝕄) = bigSep Finset.univ fun i => rPts rk d (tShare c i) :=
  Transfers.pointsTo_deal Finset.univ Finset.univ_nonempty _

omit [FloatOps F] [Named F] in
/-- The three arrays whole are the SparseCores' shares of them. -/
theorem lPts_cores (d : Dev nD) : (lLoc d ↦{fullShare} lab d : sProp 𝕄) = bigSep Finset.univ fun c => lPts lab d (cSet c) := by
  rw [← pointsTo_biUnion Finset.univ (ℓ := lLoc d) cSet cSet_disjoint, cSet_cover]
omit [FloatOps F] [Named F] in
theorem gPts_cores (d : Dev nD) (f : Buf (Elt F) (gLoc d)) : (gLoc d ↦{fullShare} f : sProp 𝕄) = bigSep Finset.univ fun c => gPts d (cSet c) f := by
  rw [← pointsTo_biUnion Finset.univ (ℓ := gLoc d) cSet cSet_disjoint, cSet_cover]
omit [FloatOps F] [Named F] in
theorem rPts_cores (d : Dev nD) : (rLoc d ↦{fullShare} rk d : sProp 𝕄) = bigSep Finset.univ fun c => rPts rk d (cShare c) :=
  Transfers.pointsTo_deal Finset.univ Finset.univ_nonempty _

/-- A SparseCore deals its tiles what it takes, and gathers what they bring back. -/
theorem vecSplit : (K (F := F)).VecSplit' (P lab rk f0) 0 := by
  intro d c
  show iprop(lPts lab d (cSet (Fin.cast nCore_zero c)) ∗ rPts rk d (cShare (Fin.cast nCore_zero c)) ∗ gPts d (cSet (Fin.cast nCore_zero c)) (f0 d))
    ⊢ |={Set.univ}=> iprop(
      (bigSep Finset.univ fun i : Fin ((K (F := F)).nSub 0) =>
        iprop(lPts lab d (tSet (Fin.cast nCore_zero c) (Fin.cast nSub_zero i)) ∗ rPts rk d (tShare (Fin.cast nCore_zero c) (Fin.cast nSub_zero i))
          ∗ gPts d (tSet (Fin.cast nCore_zero c) (Fin.cast nSub_zero i)) (f0 d)))
      ∗ ((bigSep Finset.univ fun i : Fin ((K (F := F)).nSub 0) =>
        iprop(lPts lab d (tSet (Fin.cast nCore_zero c) (Fin.cast nSub_zero i)) ∗ rPts rk d (tShare (Fin.cast nCore_zero c) (Fin.cast nSub_zero i))
          ∗ gPts d (tSet (Fin.cast nCore_zero c) (Fin.cast nSub_zero i)) (gam (lab d) (rk d))))
          -∗ iprop(lPts lab d (cSet (Fin.cast nCore_zero c)) ∗ rPts rk d (cShare (Fin.cast nCore_zero c))
            ∗ gPts d (cSet (Fin.cast nCore_zero c)) (gam (lab d) (rk d)))))
  generalize Fin.cast nCore_zero c = c'
  rw [bigSep_tiles (F := F) (fun i => iprop(lPts lab d (tSet c' i) ∗ rPts rk d (tShare c' i) ∗ gPts d (tSet c' i) (f0 d))),
    bigSep_tiles (F := F) (fun i => iprop(lPts lab d (tSet c' i) ∗ rPts rk d (tShare c' i) ∗ gPts d (tSet c' i) (gam (lab d) (rk d)))),
    bigSep_sep', bigSep_sep', bigSep_sep', bigSep_sep', lPts_tiles, rPts_tiles, gPts_tiles, gPts_tiles]
  iintro H; imodintro
  isplitl [H]; · iexact H
  iintro H; iexact H

/-- All that the call takes, from the three arrays whole; -/
theorem st_eq (d : Dev nD) : (bigSep Finset.univ fun c : Fin ((K (F := F)).nCore 0) => (P lab rk f0).st 0 d c)
    = iprop((lLoc d ↦{fullShare} lab d) ∗ (rLoc d ↦{fullShare} rk d) ∗ (gLoc d ↦{fullShare} f0 d)) := by
  rw [lPts_cores, rPts_cores, gPts_cores, ← bigSep_sep', ← bigSep_sep']
  exact bigSep_cores (F := F) (fun c => iprop(lPts lab d (cSet c) ∗ rPts rk d (cShare c) ∗ gPts d (cSet c) (f0 d)))

/-- and all that it hands back, the three arrays whole, the result at the modulation of every pixel. -/
theorem dn_eq (d : Dev nD) : (bigSep Finset.univ fun c : Fin ((K (F := F)).nCore 0) => (P lab rk f0).dn 0 d c)
    = iprop((lLoc d ↦{fullShare} lab d) ∗ (rLoc d ↦{fullShare} rk d) ∗ (gLoc d ↦{fullShare} gam (lab d) (rk d))) := by
  rw [lPts_cores, rPts_cores, gPts_cores, ← bigSep_sep', ← bigSep_sep']
  exact bigSep_cores (F := F) (fun c => iprop(lPts lab d (cSet c) ∗ rPts rk d (cShare c) ∗ gPts d (cSet c) (gam (lab d) (rk d))))

end Cert.Proof.K
-- ==== Proof.Region.lean ====
module

public import proofs.«01_k».proof.Proof.Setup
public import Idealize.ShloMosaic.Lib.Pipeline.ValueKit

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-- A staging memref of the TensorCore's kernel, held whole at given contents. -/
abbrev stPt (d : Dev nD) (M : Memref sig .tc .vmem S1x8x32768 .f32) (f : Buf (Elt F) (M.view.loc (T (τ := τ) d))) : sProp 𝕄 :=
  M.view.loc (T (τ := τ) d) ↦{fullShare} f

set_option maxRecDepth 20000 in
/-- The TensorCore's kernel at one point: the staged modulation and features are kept, and the result's buffer reads
    as their product. -/
theorem scale_run (d : Dev nD) (i : grid1.Coords) (A : Memref sig .tc .vmem S1x8x32768 .f32) (hA : A.IsWhole)
    (B : Memref sig .tc .vmem S1x8x32768 .f32) (hB : B.IsWhole) (C : Memref sig .tc .vmem S1x8x32768 .f32) (hC : C.IsWhole)
    (f : Buf (Elt F) (A.view.loc (T d))) (g : Buf (Elt F) (B.view.loc (T d))) (h : Buf (Elt F) (C.view.loc (T d)))
    (Q : PUnit → sProp 𝕄) :
    iprop(stPt d A f ∗ stPt d B g ∗ stPt d C h
        ∗ (∀ w, ⌜C.view.read (Elt F) w = k1_pay1 (B.view.read (Elt F) g) (A.view.read (Elt F) f)⌝ -∗ stPt d A f -∗ stPt d B g -∗ stPt d C w -∗ Q ⟨⟩))
      ⊢ wp frame (wpE (defs₀ (F := F)) 𝒱₀ (T d) none) Set.univ (cc1__scale_body (F := F) i A hA B hB C hC) Q := by
  rw [cc1__scale_body_eq_skeleton]; unfold cc1__scale_body_skel
  iintro ⟨HA, HB, HC, Hk⟩
  sl_exec!
  sl_step
  have hr : C.view.read (Elt F) (C.view.writes (Elt F) C.view.junk (scale_run.sl.HC_1 d A B f g))
      = k1_pay1 (B.view.read (Elt F) g) (A.view.read (Elt F) f) := by
    unfold scale_run.sl.HC_1
    rw [View.read_writes_junk_eq_canon, View.canon_cons_unit_lit _ _ _ (by decide)]
    congr 1
    · exact View.ld_unit_lit _ _ (by decide)
    · exact View.ld_unit_lit _ _ (by decide)
  ihave Hk := Hk $$ %(C.view.writes (Elt F) C.view.junk (scale_run.sl.HC_1 d A B f g)) %hr HA HB
  iapply Hk; iexact HC

/-- The same over what the staging memrefs read. -/
theorem scale_owns (d : Dev nD) (i : grid1.Coords) (A : Memref sig .tc .vmem S1x8x32768 .f32) (hA : A.IsWhole)
    (B : Memref sig .tc .vmem S1x8x32768 .f32) (hB : B.IsWhole) (C : Memref sig .tc .vmem S1x8x32768 .f32) (hC : C.IsWhole)
    (x y z : S1x8x32768.Idx → Elt F .f32) (Q : PUnit → sProp 𝕄) :
    iprop(owns (T d) A fullShare x ∗ owns (T d) B fullShare y ∗ owns (T d) C fullShare z
        ∗ (owns (T d) A fullShare x -∗ owns (T d) B fullShare y -∗ owns (T d) C fullShare (k1_pay1 y x) -∗ Q ⟨⟩))
      ⊢ wp frame (wpE (defs₀ (F := F)) 𝒱₀ (T d) none) Set.univ (cc1__scale_body (F := F) i A hA B hB C hC) Q := by
  unfold owns
  rw [hA.set_eq_univ, hB.set_eq_univ, hC.set_eq_univ]
  iintro ⟨⟨%f, %ef, HA⟩, ⟨%g, %eg, HB⟩, ⟨%h, -, HC⟩, Hk⟩
  subst ef; subst eg
  iapply (scale_run d i A hA B hB C hC f g h Q)
  isplitl [HA]; · iexact HA
  isplitl [HB]; · iexact HB
  isplitl [HC]; · iexact HC
  iintro %w %ew HA HB HC
  iapply Hk $$ [HA] [HB]
  · iexists f; isplitr; · ipureintro; rfl
    iexact HA
  · iexists g; isplitr; · ipureintro; rfl
    iexact HB
  · iexists w; isplitr; · ipureintro; exact ew
    iexact HC

/-! ## The proof data of the pipeline -/

variable (V : Dev nD → Valuation τ sig (Elt F)) (n : ℕ)

/-- The blocks the pipeline stages at a point: of the modulation (`main_v5`) and of the features (`main_v4`). -/
abbrev gBlk (c : Dev nD) (t : Fin cfg1.N) : S1x8x32768.Idx → Elt F .f32 := ((cfg1.win 0).blk t).view.read (Elt F) (V c main_v5)
abbrev fBlk (c : Dev nD) (t : Fin cfg1.N) : S1x8x32768.Idx → Elt F .f32 := ((cfg1.win 1).blk t).view.read (Elt F) (V c main_v4)

/-- The proof data: the arrays at the entry contents; after the body the two operands' buffers as staged and the
    result's at their product; nothing owed; the waits recorded at level `n` or below. -/
def dat (c : Dev nD) : Pipeline.Dat τ (Elt F) (HIx 1) ℕ UU ℕ cfg1 c where
  A w := V c (Pipeline.arrRef spec1 w)
  after w t := match w with
    | ⟨0, _⟩ => gBlk V c t
    | ⟨1, _⟩ => fBlk V c t
    | ⟨2, _⟩ => k1_pay1 (fBlk V c t) (gBlk V c t)
  Φ _ := BI.emp
  q _ := fullShare
  owed _ := 0
  recorded _ := {p | (K (F := F)).lev ((SparseCore.T c, p.1) : GSem nD τ sig) p.2 ≤ n}

theorem before_0 (c : Dev nD) (t : Fin cfg1.N) (e) : (dat V n c).before 0 t e = gBlk V c t :=
  (dat V n c).before_in_eq_fetched 0 rfl (fun _ => rfl) (fun _ _ _ => rfl) (fun _ => rfl) t e

theorem before_1 (c : Dev nD) (t : Fin cfg1.N) (e) : (dat V n c).before 1 t e = fBlk V c t :=
  (dat V n c).before_in_eq_fetched 1 rfl (fun _ => rfl) (fun _ _ _ => rfl) (fun _ => rfl) t e

set_option maxRecDepth 20000 in
/-- The body's obligation at every point: `scale_run` between the staged blocks and their product. -/
theorem body_meets (c : Dev nD) : Pipeline.BodyObligation (dat V n c) (defs₀ (F := F)) 𝒱₀ (none : HIx 1) Set.univ := fun t => by
  rw [bigSep_W1, bigSep_W1]
  rw [show (dat V n c).owesAt none t.succ = (dat V n c).owesAt none t.castSucc from rfl,
    show (dat V n c).Φ t.castSucc = BI.emp from rfl, show (dat V n c).Φ t.succ = BI.emp from rfl]
  iintro ⟨-, Howes, ⟨%d0, H0⟩, ⟨%d1, H1⟩, ⟨%d2, H2⟩⟩
  ihave H0 := (Entails.of_eq (congrArg _ (before_0 V n c t d0))) $$ H0
  ihave H1 := (Entails.of_eq (congrArg _ (before_1 V n c t d1))) $$ H1
  iapply (scale_owns c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) (gBlk V c t) (fBlk V c t) _ _)
  isplitl [H0]; · iexact H0
  isplitl [H1]; · iexact H1
  isplitl [H2]; · iexact H2
  iintro H0 H1 H2
  isplitr; · iempintro
  isplitl [Howes]; · iexact Howes
  isplitl [H0]; · iexact H0
  isplitl [H1]; · iexact H1
  iexact H2

end Cert.Proof.K
-- ==== Proof.Pipe.lean ====
/-
  The TensorCore's pipeline as one region of @main: entered with every unscoped buffer at a valuation, left with the
  result's array at what the write-backs have put there and every other buffer as it was.
-/
module

public import proofs.«01_k».proof.Proof.Region
public import Idealize.ShloMosaic.Lib.Pipeline.Frame

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

abbrev adm : (p : Fin 1) → (pcfgs (F := F) p).Adm := fun p => (cfgs p).toPCfg_adm

variable (V V' : Dev nD → Valuation τ sig (Elt F)) (n : ℕ)

/-- The one pipeline's proof data, as the family over pipelines. -/
def pdats : (p : Fin 1) → (c : Dev nD) → Pipeline.Dat τ (Elt F) (HIx 1) ℕ UU ℕ (Pipeline.pin (pcfgs (F := F)) adm p) c
  | ⟨0, _⟩ => fun c => dat V n c

/-- What the pipeline leaves in its result's array. -/
def scaled (c : Dev nD) : Buf (Elt F) ((c : Thread nD τ).loc main_v6) := (dat V n c).arrAt 2 cfg1.N

/-- The TensorCore's debts: none, its recorded waits at level `n` or below. -/
abbrev idle (c : Dev nD) : sProp 𝕄 :=
  iprop(∃ W, ⌜(K (F := F)).WBelow (T c) W n⌝ ∗ owes (T c) (0 : CellTallies nD τ sig (HIx 1)) W)

set_option backward.isDefEq.respectTransparency.types false in
/-- The region. -/
def seg (hout : ∀ c, V' c main_v6 = scaled V n c) (hne : ∀ c (b : Ref sig .tc), b ≠ main_v6 → V' c b = V c b) :
    Pipeline.RegionSeg (pcfgs (F := F)) adm (pdats V n) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_meets V n c).loose
  hwaits := Pipeline.hwaits_of_owed_zero _ _ _ _ _ _ 0 fun _ _ => rfl
  pre c := iprop(unscopedBufs c (fun b => V c b) ∗ idle n c)
  post c := iprop(unscopedBufs c (fun b => V' c b) ∗ idle n c)
  X _ := BI.emp
  Y _ := BI.emp
  Z c := Pipeline.unscopedRest (Ix := HIx 1) (Name := ℕ) (U := UU) (Lvl := ℕ) spec1 c (fun b => V c b)
  hentry c := by
    rw [Pipeline.ownSems0_none]
    have hsplit := Pipeline.arrays_of_unscopedBufs (p := 0) (pcfgs (F := F)) adm (pdats V n) launch1.win launch1.arr_whole c
      ((pdats V n 0 c).share_full fun _ => rfl) (fun b => V c b) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V n 0 c).Φ 0 = BI.emp from rfl]
    iintro ⟨-, -, Hr⟩
    ihave H := (Entails.of_eq (scopedRest1_eq c)) $$ Hr
    iexact H
  hout c := by
    rw [Pipeline.ownSems0_none, show (pdats V n 0 c).Φ (Fin.last _) = BI.emp from rfl]
    iintro -
    isplitr; · iempintro
    isplitr; · iempintro
    iapply (Entails.of_eq (scopedRest1_eq c).symm)
    iempintro
  hexit c := by
    have hjoin := Pipeline.unscopedBufs_of_arrays (p := 0) (pcfgs (F := F)) adm (Ix := HIx 1) (Name := ℕ) (U := UU) (Lvl := ℕ) launch1.win launch1.arr_whole c
      (pdats V n) ((pdats V n 0 c).share_full fun _ => rfl) (fun b => V c b) (fun b => V' c b) ((pdats V n 0 c).arrAt · cfg1.N)
      (fun w => by
        fin_cases w
        · exact ((pdats V n 0 c).arrAt_in 0 rfl _).trans (hne c main_v5 (by decide)).symm
        · exact ((pdats V n 0 c).arrAt_in 1 rfl _).trans (hne c main_v4 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le n
    iexact HO

end Cert.Proof.K
-- ==== Proof.Main.lean ====
/-
  @main on one device's TensorCore: the host operations before the SparseCore call, the call, the host operations after
  it, the TensorCore's pipeline, and the last reshape, each from every unscoped buffer at a valuation to the next.
-/
module

public import proofs.«01_k».proof.Proof.Launch
public import proofs.«01_k».proof.Proof.Pipe

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-! ## What the buffers hold between the steps -/

abbrev op0 : HloOp τ sig (Elt F) := StableHlo.reshape main_arg1 main_v0 (rfl : (.i32 : EltTy) = .i32) shapeCasts_S2x1x512x512_S524288
abbrev op1 : HloOp τ sig (Elt F) := StableHlo.nullary main_c (constantI S_ 32 0#32)
abbrev op2 : HloOp τ sig (Elt F) := StableHlo.TRef.unary (.of main_c) (.of main_call0_v0 : StableHlo.TRef sig ⟨S_, .f32⟩) (sitofp .f32)
abbrev op3 : HloOp τ sig (Elt F) := StableHlo.TRef.binary (.of main_arg2 : StableHlo.TRef sig ⟨S19, .f32⟩) (.of main_call0_v0 : StableHlo.TRef sig ⟨S_, .f32⟩) (.of main_v1 : StableHlo.TRef sig ⟨S32, .f32⟩)
  (fun x v => pad S32 ![0] ![13] ![0] x v pads_S19_S32_0130 h_S_)
abbrev op4 : HloOp τ sig (Elt F) := StableHlo.reshape main_v2 main_v3 (rfl : (.f32 : EltTy) = .f32) shapeCasts_S524288_S2x1x512x512
abbrev op5 : HloOp τ sig (Elt F) := StableHlo.reshape main_arg0 main_v4 (rfl : (.f32 : EltTy) = .f32) shapeCasts_S2x96x512x512_S192x8x32768
abbrev op6 : HloOp τ sig (Elt F) := StableHlo.reshape main_v3 main_v5 (rfl : (.f32 : EltTy) = .f32) shapeCasts_S2x1x512x512_S2x8x32768
abbrev op7 : HloOp τ sig (Elt F) := StableHlo.reshape main_v6 main_v7 (rfl : (.f32 : EltTy) = .f32) shapeCasts_S192x8x32768_S2x96x512x512

variable (m : (ℓ : Loc nD τ sig) → Buf (Elt F) ℓ)

/-- At the launch; -/
def V0 (d : Dev nD) : Valuation τ sig (Elt F) := fun b => m (d, b)
/-- before the SparseCore call; -/
def V1 (d : Dev nD) : Valuation τ sig (Elt F) := op3.result (op2.result (op1.result (op0.result (V0 m d))))
/-- after it, the flat result at the modulation; -/
def V2 (d : Dev nD) : Valuation τ sig (Elt F) := Function.update (V1 m d) (main_v2 : DevRef τ sig) (gam (V1 m d main_v0) (V1 m d main_v1))
/-- as the pipeline finds them; -/
def V3 (d : Dev nD) : Valuation τ sig (Elt F) := op6.result (op5.result (op4.result (V2 m d)))
/-- as the pipeline leaves them; -/
def V4 (d : Dev nD) : Valuation τ sig (Elt F) := Function.update (V3 m d) (main_v6 : DevRef τ sig) (scaled (V3 m) 8 d)
/-- at the end. -/
def V5 (d : Dev nD) : Valuation τ sig (Elt F) := op7.result (V4 m d)

theorem update_ne (W : Valuation τ sig (Elt F)) {y b : Ref sig .tc} (h : b ≠ y) (f : ((y : DevRef τ sig)).ty.Contents (Elt F)) :
    Function.update W (y : DevRef τ sig) f (b : DevRef τ sig) = W b :=
  Function.update_of_ne (fun e => h (Proc.devRef_injective _ e)) _ _

/-! ## The steps -/

/-- The unscoped buffers at a valuation, as one held set. -/
theorem bufs_held (d : Dev nD) (W : Valuation τ sig (Elt F)) : (unscopedBufs d (fun b => W b) : sProp 𝕄) = StableHlo.held (T d) (Pipeline.ucRefs τ sig) W :=
  Pipeline.unscopedBufs_held (Val := Elt F) (Ix := HIx 1) (Name := ℕ) (U := UU) (Lvl := ℕ) d W

/-- The same of the launch memory. -/
theorem launch_bufs (d : Dev nD) : (unscopedBufs d (fun b => m ((SparseCore.T (τ := τ) d).loc b)) : sProp 𝕄) = StableHlo.held (T d) (Pipeline.ucRefs τ sig) (V0 m d) := bufs_held d (V0 m d)

/-- A host operation, from every unscoped buffer at a valuation to its result. -/
theorem hop (d : Dev nD) (op : HloOp τ sig (Elt F)) (hS : op.bufs ⊆ StableHlo.tcRefs τ sig) (hf : op.fresh = ∅) (W : Valuation τ sig (Elt F))
    (Q : PUnit → sProp 𝕄) :
    iprop((boundary (T d) ∗ StableHlo.held (T d) (Pipeline.ucRefs τ sig) W) ∗ ((boundary (T d) ∗ StableHlo.held (T d) (Pipeline.ucRefs τ sig) (op.result W)) -∗ Q ⟨⟩))
      ⊢ wp frame (wpE ((K (F := F)).defs (D (F := F))) 𝒱 (T d) none) Set.univ (hlo rfl op fun _ => .ret ⟨⟩) Q := by
  iintro ⟨H, Hk⟩
  iapply (StableHlo.wp_hlo_within 𝒱 (T d) none Set.univ (op := op) (S := (Pipeline.ucRefs τ sig)) (Pipeline.sub_ucRefs op hS) (V := W) hf) $$ H
  iintro H
  rw [wp_ret]; imodintro
  iapply Hk; iexact H

/-- The labels, the ranks and the flat result taken out of the unscoped buffers, with what puts them back at a new result. -/
theorem call_bufs (d : Dev nD) (W : Valuation τ sig (Elt F)) (g : Buf (Elt F) (gLoc d)) :
    (StableHlo.held (T d) (Pipeline.ucRefs τ sig) W : sProp 𝕄)
      ⊢ iprop(((lLoc d ↦{fullShare} W main_v0) ∗ (rLoc d ↦{fullShare} W main_v1) ∗ (gLoc d ↦{fullShare} W main_v2))
          ∗ (((lLoc d ↦{fullShare} W main_v0) ∗ (rLoc d ↦{fullShare} W main_v1) ∗ (gLoc d ↦{fullShare} g))
              -∗ StableHlo.held (T d) (Pipeline.ucRefs τ sig) (Function.update W (main_v2 : DevRef τ sig) g))) := by
  have three : ∀ W : Valuation τ sig (Elt F), (StableHlo.held (T d) {(main_v0 : DevRef τ sig), (main_v1 : DevRef τ sig), (main_v2 : DevRef τ sig)} W : sProp 𝕄)
      = iprop((lLoc d ↦{fullShare} W main_v0) ∗ (rLoc d ↦{fullShare} W main_v1) ∗ (gLoc d ↦{fullShare} W main_v2)) := fun W => by
    unfold StableHlo.held
    rw [SparseCore.bigSep_insert' (by decide), SparseCore.bigSep_insert' (by decide), bigSep_singleton]
  have hsub : ({(main_v0 : DevRef τ sig), (main_v1 : DevRef τ sig), (main_v2 : DevRef τ sig)} : Finset (DevRef τ sig)) ⊆ (Pipeline.ucRefs τ sig) := by decide
  rw [StableHlo.held_sub_split (T d) hsub W, StableHlo.held_sub_split (T d) hsub (Function.update W (main_v2 : DevRef τ sig) g), three, three,
    update_ne W (by decide), update_ne W (by decide), Function.update_self,
    StableHlo.held_congr (T d) (S := (Pipeline.ucRefs τ sig) \ _) (V := Function.update W (main_v2 : DevRef τ sig) g) (V' := W) fun b hb =>
      Function.update_of_ne (fun e => (Finset.mem_sdiff.mp hb).2 (by rw [e]; decide)) _ _]
  iintro ⟨H, Hr⟩
  isplitl [H]; · iexact H
  iintro H; isplitl [H] <;> iassumption

/-- What the launch deals the TensorCore for its pipeline: the ghost state of its staging cells and transfers. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The region's call inside the whole program is the pipeline library's, lifted. -/
theorem entry_lift : (Prog.lift (.customCall (SparseCore.inner (Pipeline.entry 0)) ()) :
      Prog (TpuEff nD τ sig (Elt F) (SparseCore.Sig (ΛP (F := F)) 1) .tc) PUnit)
    = SparseCore.liftProg (Q := 1) (Prog.lift (.customCall (Pipeline.entry 0) ()) : Prog (TpuEff nD τ sig (Elt F) (ΛP (F := F)) .tc) PUnit) := rfl

set_option backward.isDefEq.respectTransparency.types false in
/-- The TensorCore's pipeline inside the whole program. -/
theorem region_run [∀ e, Nonempty (Elt F e)] (V V' : Dev nD → Valuation τ sig (Elt F)) (n : ℕ)
    (hout : ∀ c, V' c main_v6 = scaled V n c) (hne : ∀ c (b : Ref sig .tc), b ≠ main_v6 → V' c b = V c b) (d : Dev nD) (Q : PUnit → sProp 𝕄) :
    iprop(((boundary (T d) ∗ unscopedBufs d (fun b => V' d b) ∗ idle n d) -∗ Q ⟨⟩)
        ∗ boundary (T d) ∗ (unscopedBufs d (fun b => V d b) ∗ idle n d) ∗ levAts (K (F := F)).L (K (F := F)).lev ∗ G d)
      ⊢ wp frame (wpE ((K (F := F)).defs (D (F := F))) 𝒱 (T d) none) Set.univ (Prog.lift (.customCall (SparseCore.inner (Pipeline.entry 0)) ())) Q := by
  rw [entry_lift]
  have h' := (K (F := F)).wp_liftProg (D (F := F)) 𝒱 (T d) Set.univ none (Prog.lift (.customCall (Pipeline.entry 0) ())) Q
  have h := (seg V V' n hout hne).wp (pcfgs (F := F)) adm (pdats V n) (none : HIx 1) cellOf_inj EP defs₀ 𝒱₀ (K (F := F)).L (K (F := F)).lev d none
    (fun _ h => nomatch h) (α := PUnit) .ret Q
  iintro ⟨Hk, Hb, Hpre, Hl, Hg, Ht⟩
  rw [show (seg V V' n hout hne).pre d = iprop(unscopedBufs d (fun b => V d b) ∗ idle n d) from rfl,
    show (seg V V' n hout hne).post d = iprop(unscopedBufs d (fun b => V' d b) ∗ idle n d) from rfl] at h
  iapply h'; iapply h
  isplitl [Hk]
  · iintro H; rw [wp_ret]; imodintro; iapply Hk; iexact H
  isplitl [Hb]; · iexact Hb
  isplitl [Hpre]; · iexact Hpre
  isplitl [Hl]; · iexact Hl
  isplitl [Hg] <;> iassumption

variable (ρ : Dev nD → PrngReg)

/-- What @main leaves on a device: every unscoped buffer at the last valuation. -/
abbrev FIN (d : Dev nD) : sProp 𝕄 := StableHlo.held (T d) (Pipeline.ucRefs τ sig) (V5 m d)

/-- What the SparseCore call takes and hands back here: the labels, the ranks and the flat result as the host operations
    left them. -/
abbrev PP : (K (F := F)).Pay (nD := nD) (Val := Elt F) (Name := ℕ) (U := UU) := P (fun d => V1 m d main_v0) (fun d => V1 m d main_v1) (fun d => V1 m d main_v2)

/-- @main on device `d`'s TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  simp only [main, fn_pad.body, wp_bind, wp_pure]
  iintro ⟨#Hctx, Hst, ⟨Hb, Hbuf, Hts, -⟩, HG⟩
  ihave Hbuf := (Entails.of_eq (launch_bufs m d)) $$ Hbuf
  iapply (hop d op0 (by simp) rfl (V0 m d) _)
  isplitl [Hb Hbuf]; · isplitl [Hb] <;> iassumption
  iintro H
  iapply (hop d op1 (by simp) rfl _ _)
  isplitl [H]; · iexact H
  iintro H
  iapply (hop d op2 (by simp) rfl _ _)
  isplitl [H]; · iexact H
  iintro H
  iapply (hop d op3 (by simp) rfl _ _)
  isplitl [H]; · iexact H
  iintro ⟨Hb, Hbuf⟩
  rw [show op3.result (op2.result (op1.result (op0.result (V0 m d)))) = V1 m d from rfl]
  imodintro
  ihave H := (call_bufs d (V1 m d) (gam (V1 m d main_v0) (V1 m d main_v1))) $$ Hbuf
  rw [show Function.update (V1 m d) (main_v2 : DevRef τ sig) (gam (V1 m d main_v0) (V1 m d main_v1)) = V2 m d from rfl]
  icases H with ⟨H3, Hback⟩
  iapply ((K (F := F)).wp_run (D (F := F)) 𝒱 (EH := EH) (P := PP m) κ d 0)
  isplitr; · iexact Hctx
  isplitl [Hst]; · iexact Hst
  isplitl [H3]
  · rw [st_eq]; iexact H3
  iintro ⟨Hst, Hdn⟩
  ihave Hdn := (Entails.of_eq (dn_eq _ _ _ d)) $$ Hdn
  ihave Hbuf := Hback $$ Hdn
  iapply (hop d op4 (by simp) rfl (V2 m d) _)
  isplitl [Hb Hbuf]; · isplitl [Hb] <;> iassumption
  iintro H
  iapply (hop d op5 (by simp) rfl _ _)
  isplitl [H]; · iexact H
  iintro H
  iapply (hop d op6 (by simp) rfl _ _)
  isplitl [H]; · iexact H
  iintro ⟨Hb, Hbuf⟩
  rw [show op6.result (op5.result (op4.result (V2 m d))) = V3 m d from rfl]
  ihave Hbuf := (Entails.of_eq (bufs_held d (V3 m d)).symm) $$ Hbuf
  ihave Hlev := ((K (F := F)).ctx_levAts κ) $$ Hctx
  unfold SparseCore.Cfg.tcSt
  icases Hst with ⟨⟨%W, %hW, HO⟩, Hst⟩
  rw [(K (F := F)).Otc_end d (n := 1) le_rfl]
  ihave HO := (Entails.of_eq (show owes (T d) ((K (F := F)).Otc d ((0 : Fin 1).val + 1)) W = (owes (T d) (0 : CellTallies nD τ sig (HIx 1)) W : sProp 𝕄)
    from congrArg (fun O => owes (T d) O W) ((K (F := F)).Otc_end d (n := 1) le_rfl))) $$ HO
  iapply (region_run (V3 m) (V4 m) 8 (fun c => Function.update_self _ _ _) (fun c b hb => update_ne _ hb _) d _)
  isplitr [Hb Hbuf HO Hlev HG]; swap
  · isplitl [Hb]; · iexact Hb
    isplitl [Hbuf HO]
    · isplitl [Hbuf]; · iexact Hbuf
      iexists W; isplitr; · ipureintro; exact hW
      iexact HO
    isplitl [Hlev] <;> iassumption
  iintro ⟨Hb, Hbuf, ⟨%W', %hW', HO⟩⟩
  ihave Hbuf := (Entails.of_eq (bufs_held d (V4 m d))) $$ Hbuf
  iapply (hop d op7 (by simp) rfl (V4 m d) _)
  isplitl [Hb Hbuf]; · isplitl [Hb] <;> iassumption
  iintro ⟨Hb, Hbuf⟩
  imodintro
  isplitl [HO Hst]
  · isplitl [HO]
    · iexists W'; isplitr; · ipureintro; exact hW'
      iexact HO
    iexact Hst
  isplitl [Hbuf]; · iexact Hbuf
  isplitl [Hb] <;> iassumption

end Cert.Proof.K
-- ==== Proof.Run.lean ====
/-
  The whole program's run: the launch's ghost state, every thread's obligation, and what the memory holds at the end.
-/
module

public import proofs.«01_k».proof.Proof.Main
public import Idealize.ShloMosaic.Lib.Pipeline.Launch

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

/-- The handshakes' element, the pipeline's, and no counter. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- Over the one pipeline. -/
theorem one_pipe (Φ : Fin 1 → Dev nD → sProp 𝕄) : (bigSep Finset.univ fun d => bigSep Finset.univ fun p => Φ p d) = bigSep Finset.univ (Φ 0) :=
  bigSep_congr fun _ _ => bigSep_univ_of_subsingleton (0 : Fin 1)

/-- The pipeline's element deals each TensorCore its staging cells' state and its transfers' tokens. -/
theorem pipe_deal :
    (BI.own (EP (initOf (Pipeline.cells (Pipeline.pin (pcfgs (F := F)) adm) cellOf_inj) (Pipeline.launchToks (Pipeline.pin (pcfgs (F := F)) adm) cellOf_inj))) : sProp 𝕄)
      ⊢ iprop(|==> bigSep Finset.univ fun d : Dev nD => G (F := F) d) := by
  iintro H
  imod (Pipeline.fund_ghost (Pipeline.pin (pcfgs (F := F)) adm) EP cellOf_inj) $$ H with ⟨Hc, Ht⟩
  imodintro
  rw [bigSep_sep']
  isplitl [Hc]
  · iapply (Entails.of_eq (one_pipe fun p d => Pipeline.cellsGhost (Pipeline.pin (pcfgs (F := F)) adm) EP p d)); iexact Hc
  · iapply (Entails.of_eq (one_pipe fun p d => Pipeline.toksInit (Pipeline.pin (pcfgs (F := F)) adm) EP p d)); iexact Ht

/-- No kernel's proof is dealt anything. -/
theorem none_dealt : (iprop(emp) : sProp 𝕄) ⊢ bigSep Finset.univ fun thr : Thread nD τ => bigSep Finset.univ fun q : Fin 1 => (PP m).x q thr := by
  rw [show (fun thr : Thread nD τ => bigSep Finset.univ fun q : Fin 1 => (PP m).x q thr) = fun _ => (iprop(emp) : sProp 𝕄)
    from funext fun _ => bigSep_univ_of_subsingleton (0 : Fin 1)]
  exact Entails.of_eq (bigSep_emp_const _).symm

/-- The launch element funds the handshakes and every TensorCore's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  imod (pipe_deal (F := F)) $$ [HP] with HG
  · unfold EP; iexact HP
  imodintro
  isplitl [HH]; · iexact HH
  isplitl [HG]; · iexact HG
  iapply (none_dealt m); iempintro

/-! ## What the memory holds at the end -/

/-- Every unscoped buffer of device `d` at the last valuation. -/
def fq (d : Dev nD) (s' : Phys nD τ sig (Elt F)) : Prop := ∀ b ∈ Pipeline.ucRefs τ sig, s'.mem.mem (d, b) = V5 m d b

/-- What @main leaves says so of the memory. -/
theorem hfin (d : Dev nD) (s' : Phys nD τ sig (Elt F)) : iprop(FIN m d ∗ SI s') ⊢ (⌜fq m d s'⌝ : sProp 𝕄) := by
  unfold FIN StableHlo.held fq
  exact (pointsTo_read_all (Pipeline.ucRefs τ sig) (fun b => (d, b)) (fun b => V5 m d b) s').trans sep_elim_left

/-- The post of the run: every unscoped buffer at the last valuation, every semaphore at zero. -/
def QC : PUnit × MemSt nD τ sig (Elt F) → Prop := fun r =>
  (∀ d : Dev nD, ∀ b ∈ Pipeline.ucRefs τ sig, r.2.mem (d, b) = V5 m d b) ∧ r.2.sem = fun _ => 0

/-- The program run, if every label is below 32. -/
theorem run_all [∀ e, Nonempty (Elt F e)] (hlab : ∀ d, ∀ n : S524288.Idx, (V1 m d main_v0 n : BitVec 32).toNat < 32) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts hlab)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m) (fun _ h hz => ⟨h, hz⟩)

end Cert.Proof.K
-- ==== Proof.Ends.lean ====
/-
  The valuations of @main's steps read at the buffers that matter: what the SparseCore call and the pipeline find, where
  the result comes from, and that the three arguments are what they were.
-/
module

public import proofs.«01_k».proof.Proof.Main

@[expose] public section

noncomputable section

namespace Cert.Proof.K

open Cert.KernelIdeal Cert.KernelIdeal.Gen

open Idealize.ShloMosaic Idealize.ShloMosaic.TcCoe
open Idealize.SL.Sem

variable {F : FTy → Type} [FloatOps F] [Named F]

variable (m : (ℓ : Loc nD τ sig) → Buf (Elt F) ℓ) (d : Dev nD)

/-- A host operation leaves a buffer it does not write. -/
theorem kept (op : HloOp τ sig (Elt F)) (W : Valuation τ sig (Elt F)) {y b : Ref sig .tc} (hw : op.writes = {(y : DevRef τ sig)})
    (h : b ≠ y) : op.result W (b : DevRef τ sig) = W (b : DevRef τ sig) :=
  op.result_of_not_mem W fun hb => h (Proc.devRef_injective _ (Finset.mem_singleton.mp (hw ▸ hb)))

/-- No step before the SparseCore call writes a buffer other than the flat labels, the zero (twice) and the padded ranks. -/
theorem V1_kept {b : Ref sig .tc} (h0 : b ≠ main_v0) (h1 : b ≠ main_c) (h2 : b ≠ main_call0_v0) (h3 : b ≠ main_v1) :
    V1 m d (b : DevRef τ sig) = m (d, (b : DevRef τ sig)) := by
  unfold V1
  rw [kept op3 _ (y := main_v1) rfl h3, kept op2 _ (y := main_call0_v0) rfl h2, kept op1 _ (y := main_c) rfl h1, kept op0 _ (y := main_v0) rfl h0]
  rfl

/-- The call finds the labels as one flat array, -/
theorem V1_labels : V1 m d main_v0 = shapeCast S524288 (m (d, (main_arg1 : DevRef τ sig))) shapeCasts_S2x1x512x512_S524288 := by
  unfold V1
  rw [kept op3 _ (y := main_v1) rfl (by decide), kept op2 _ (y := main_call0_v0) rfl (by decide), kept op1 _ (y := main_c) rfl (by decide)]
  exact StableHlo.reshape_result' _ _ _ _ _

/-- and the nineteen ranks padded to thirty-two. -/
theorem V1_ranks : ∃ z, V1 m d main_v1 = pad S32 ![0] ![13] ![0] (m (d, (main_arg2 : DevRef τ sig))) z pads_S19_S32_0130 h_S_ := by
  refine ⟨(op2.result (op1.result (op0.result (V0 m d)))) (main_call0_v0 : DevRef τ sig), ?_⟩
  unfold V1
  refine (StableHlo.binary_result' (a := main_arg2) (b := main_call0_v0) (y := main_v1) _ _ _ _ _).trans ?_
  rw [kept op2 _ (y := main_call0_v0) rfl (by decide), kept op1 _ (y := main_c) rfl (by decide), kept op0 _ (y := main_v0) rfl (by decide)]
  rfl

/-- After the call only the flat result, its two reshapes, the features', the scaled features and their reshape differ. -/
theorem V5_kept {b : Ref sig .tc} (h2 : b ≠ main_v2) (h3 : b ≠ main_v3) (h4 : b ≠ main_v4) (h5 : b ≠ main_v5) (h6 : b ≠ main_v6)
    (h7 : b ≠ main_v7) : V5 m d (b : DevRef τ sig) = V1 m d (b : DevRef τ sig) := by
  unfold V5 V4 V3 V2
  rw [kept op7 _ (y := main_v7) rfl h7, update_ne _ h6, kept op6 _ (y := main_v5) rfl h5, kept op5 _ (y := main_v4) rfl h4,
    kept op4 _ (y := main_v3) rfl h3, update_ne _ h2]

/-- The features end as they were, -/
theorem V5_arg0 : V5 m d main_arg0 = m (d, (main_arg0 : DevRef τ sig)) := by
  rw [V5_kept m d (by decide) (by decide) (by decide) (by decide) (by decide) (by decide), V1_kept m d (by decide) (by decide) (by decide) (by decide)]
/-- the labels too, -/
theorem V5_arg1 : V5 m d main_arg1 = m (d, (main_arg1 : DevRef τ sig)) := by
  rw [V5_kept m d (by decide) (by decide) (by decide) (by decide) (by decide) (by decide), V1_kept m d (by decide) (by decide) (by decide) (by decide)]
/-- and the ranks. -/
theorem V5_arg2 : V5 m d main_arg2 = m (d, (main_arg2 : DevRef τ sig)) := by
  rw [V5_kept m d (by decide) (by decide) (by decide) (by decide) (by decide) (by decide), V1_kept m d (by decide) (by decide) (by decide) (by decide)]

/-- The pipeline finds the modulation in its blocks' shape, -/
theorem V3_gamma : V3 m d main_v5 = shapeCast S2x8x32768 (shapeCast S2x1x512x512 (gam (V1 m d main_v0) (V1 m d main_v1)) shapeCasts_S524288_S2x1x512x512)
    shapeCasts_S2x1x512x512_S2x8x32768 := by
  unfold V3
  refine (StableHlo.reshape_result' _ _ _ _ _).trans ?_
  rw [kept op5 _ (y := main_v4) rfl (by decide)]
  refine congrArg (fun v => shapeCast S2x8x32768 v shapeCasts_S2x1x512x512_S2x8x32768) ?_
  refine (StableHlo.reshape_result' _ _ _ _ _).trans ?_
  unfold V2
  rw [Function.update_self]
  rfl

/-- and the features in theirs. -/
theorem V3_features : V3 m d main_v4 = shapeCast S192x8x32768 (m (d, (main_arg0 : DevRef τ sig))) shapeCasts_S2x96x512x512_S192x8x32768 := by
  unfold V3
  rw [kept op6 _ (y := main_v5) rfl (by decide)]
  refine (StableHlo.reshape_result' _ _ _ _ _).trans ?_
  rw [kept op4 _ (y := main_v3) rfl (by decide)]
  unfold V2
  rw [update_ne _ (by decide), V1_kept m d (by decide) (by decide) (by decide) (by decide)]
  rfl

/-- The result is the scaled features in the features' own shape. -/
theorem V5_result : V5 m d main_v7 = shapeCast S2x96x512x512 (scaled (V3 m) 8 d) shapeCasts_S192x8x32768_S2x96x512x512 := by
  unfold V5 V4
  refine (StableHlo.reshape_result' _ _ _ _ _).trans ?_
  rw [Function.update_self]
  rfl

end Cert.Proof.K
-- ==== Proof.Pre.lean ====
/-
  The precondition, read: every label is one of the nineteen classes.
-/
module

public import proofs.«01_k».proof.Defs
public import proofs.«01_k».proof.Proof.Gen.Pre_label_range

@[expose] public section

noncomputable section

namespace Cert.Proof.K

open Idealize.ShloMosaic Idealize.SL.Sem

/-- A left fold of the bit conjunction is one exactly when it starts at one and every bit it meets is one. -/
theorem fold_bits {α : Type} (f : α → BitVec 1) (l : List α) (b : BitVec 1) :
    l.foldl (fun r n => IntOp.andi r (f n)) b = 1#1 ↔ b = 1#1 ∧ ∀ n ∈ l, f n = 1#1 := by
  have two : ∀ p q : BitVec 1, IntOp.andi p q = 1#1 ↔ p = 1#1 ∧ q = 1#1 := by unfold IntOp.andi; decide
  induction l generalizing b with
  | nil => simp
  | cons a l ih => exact (ih (IntOp.andi b (f a))).trans (by rw [two, and_assoc, List.forall_mem_cons])

/-- A conjunction over dimensions, from one, is one exactly where every element reducing to the index is. -/
theorem reduce_bits {s t u : Shape} {axes : List (Fin s.rank)} (x : s.Idx → BitVec 1) (init : u.Idx → BitVec 1) (h : s.ReducesTo axes t)
    (hu : 0 < u.numel) (hi : init (Shape.Idx.first hu) = 1#1) (j : t.Idx) :
    Host.reduce IntOp.andi x init h hu j = 1#1 ↔ ∀ i, h.drop i = j → x i = 1#1 := by
  unfold Host.reduce
  rw [fold_bits, and_iff_right hi]
  constructor
  · intro H i hd
    have := H (s.rowMajor i) (List.mem_filter.mpr ⟨List.mem_finRange _, by simpa using hd⟩)
    simpa using this
  · intro H n hn
    exact H _ (by simpa using (List.mem_filter.mp hn).2)

/-- A word that is at least zero and below nineteen, compared signed, is a number below nineteen. -/
theorem word_range (a : BitVec 32) (h : IntOp.andi (IntOp.cmpi .sge a 0#32) (IntOp.cmpi .slt a 19#32) = 1#1) : a.toNat < 19 := by
  have two : ∀ p q : Bool, IntOp.andi (BitVec.ofBool p) (BitVec.ofBool q) = 1#1 ↔ p = true ∧ q = true := by unfold IntOp.andi; decide
  simp only [IntOp.cmpi, two, BitVec.sle_eq_decide, BitVec.slt_eq_decide, decide_eq_true_eq, BitVec.toInt_eq_toNat_cond, BitVec.toNat_ofNat,
    Nat.reducePow, Nat.reduceMod] at h
  omega

/-- Under the precondition every label is below nineteen. -/
theorem labels_lt {F : FTy → Type} [FloatOps F] (x : FVec F Pre_label_range.S2x96x512x512 .f32) (lab : IVec Pre_label_range.S2x1x512x512 32)
    (rk : FVec F Pre_label_range.S19 .f32) (h : Pre_label_range.fn x lab rk = fun _ => 1#1) (i : Pre_label_range.S2x1x512x512.Idx) : (lab i).toNat < 19 := by
  have e := congrFun h (Shape.Idx.first (by decide))
  unfold Pre_label_range.fn at e
  exact word_range _ ((reduce_bits _ _ _ _ rfl _).mp e i (funext fun a => a.elim0))

end Cert.Proof.K
-- ==== Proof.Frames.lean ====
/-
  The frames: the kernel as printed and idealized, and the reference, each run with its arguments unchanged and every
  semaphore at zero; and the one rewrite of the idealization.
-/
module

public import proofs.«01_k».proof.Proof.Run
public import proofs.«01_k».proof.Proof.Ends
public import proofs.«01_k».proof.Proof.Pre
public import proofs.«01_k».proof.Proof.Gen.Kernel
public import proofs.«01_k».proof.Proof.Gen.ReferenceIdeal.Run

@[expose] public section

noncomputable section

namespace Cert.Proof.K

open Idealize.ShloMosaic Idealize.ShloMosaic.TcCoe Idealize.SL.Sem

section Ideal

open Cert.KernelIdeal Cert.KernelIdeal.Gen

variable {F : FTy → Type} [FloatOps F] [Named F]

/-- Where the flat labels come from, index by index. -/
theorem flat_label (m : (ℓ : Loc nD τ sig) → Buf (Elt F) ℓ) (d : Dev nD) (n : S524288.Idx) :
    ∃ i, V1 m d main_v0 n = m (d, (main_arg1 : DevRef τ sig)) i := by
  rw [V1_labels]
  exact ⟨_, rfl⟩

/-- From a memory whose labels are below nineteen, the program's run: the last valuation, every semaphore at zero. -/
theorem run_labels [∀ e, Nonempty (Elt F e)] (m : (ℓ : Loc nD τ sig) → Buf (Elt F) ℓ) (ρ : Dev nD → PrngReg)
    (h : ∀ d, ∀ i : S2x1x512x512.Idx, (m (d, (main_arg1 : DevRef τ sig)) i : BitVec 32).toNat < 19) :
    θ_run (Cert.KernelIdeal.defs (F := F)) (Cert.KernelIdeal.threads (F := F)) ⟨m, fun _ => 0, ρ⟩ (QC m) :=
  run_all m ρ fun d n => by
    obtain ⟨i, e⟩ := flat_label m d n
    have := h d i
    rw [← e] at this
    omega

/-- What the run's post says of the arguments and the semaphores. -/
theorem post_args (m : (ℓ : Loc nD τ sig) → Buf (Elt F) ℓ) (r : PUnit × MemSt nD τ sig (Elt F)) (h : QC m r) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  ⟨fun c => ⟨(h.1 c main_arg0 (by decide)).trans (V5_arg0 m c), (h.1 c main_arg1 (by decide)).trans (V5_arg1 m c),
    (h.1 c main_arg2 (by decide)).trans (V5_arg2 m c)⟩, h.2⟩

/-- An element type of extended reals, and -/
instance ideal_nonempty : ∀ e, Nonempty (Elt Ideal e) := fun e => by cases e <;> exact ⟨0⟩
/-- one of bit patterns, has an element. -/
instance bits_nonempty : ∀ e, Nonempty (Elt Bits e) := fun e => by cases e <;> exact ⟨0⟩

/-- The idealized kernel's frame. -/
theorem frame_pi : Cert.quiescent_KernelIdeal := fun m g hp =>
  (θ_run _ _ _).mono (fun r h => post_args m r h) (run_labels m g fun d i => labels_lt _ _ _ (hp d) i)

end Ideal

/-! ## The kernel as printed

It is the idealized program with the constant's own bits where the named constant stands. -/

/-- At bit patterns a named constant is its bits. -/
local instance bitsNamed : Named Bits where
  named _ _ {φ} bits := Scalar.ofBits φ bits

set_option maxHeartbeats 4000000

/-- The two programs' SparseCore kernels are one, -/
theorem body_bits : (Cert.Kernel.cc0__sc_gamma_body (F := Bits)) = Cert.KernelIdeal.cc0__sc_gamma_body (F := Bits) := rfl

/-- so are their definitions before the pipeline's, -/
theorem defs₀_bits : (Cert.Kernel.defs₀ (F := Bits)) = Cert.KernelIdeal.defs₀ (F := Bits) := by
  funext p ℓ a
  match p, ℓ, a with
  | .scVector c s, 0, a => unfold Cert.Kernel.defs₀ Cert.KernelIdeal.defs₀; dsimp only; rw [body_bits]; rfl
  | .tc, 1, (t, s) => rfl
  | .tc, 0, a => rfl
  | .scVector c s, 1, a => rfl
  | .scScalar c, 0, a => rfl
  | .scScalar c, 1, a => rfl

/-- and with it. -/
theorem defs_bits : (Cert.Kernel.defs (F := Bits)) = Cert.KernelIdeal.defs (F := Bits) := by
  unfold Cert.Kernel.defs Cert.KernelIdeal.defs
  rw [defs₀_bits]
  rfl

/-- The printed kernel's frame. -/
theorem frame_p : Cert.quiescent_Kernel := fun m g hp => by
  have h := (θ_run _ _ _).mono (fun r h => post_args (F := Bits) m r h) (run_labels (F := Bits) m g fun d i => labels_lt _ _ _ (hp d) i)
  rw [defs_bits]
  exact h

/-- The reference's frame. -/
theorem frame_ri : Cert.quiescent_ReferenceIdeal := fun m g _ =>
  (θ_run _ _ _).mono (fun r h => ⟨fun c => (h c).2, sem_eq_zero_of_no_sems (by decide) r.2⟩) (Cert.ReferenceIdeal.Value.run m g)

/-- The same, of the arguments that the precondition allows. -/
theorem frame_ri_pre : Cert.quiescent_ReferenceIdeal_pre_label_range := fun m g _ => frame_ri m g trivial

/-- The named constant is the table's. -/
theorem named_inv : Cert.preserves_Kernel_KernelIdeal :=
  IdealRules.named_const.statement _ _ _ _ _ rfl

end Cert.Proof.K
-- ==== Proof.Scaled.lean ====
/-
  What the TensorCore's pipeline leaves, as one array: every feature times the modulation of its image at its pixel.
-/
module

public import proofs.«01_k».proof.Proof.Pipe
public import Idealize.ShloMosaic.Lib.Pipeline.ValueKit

@[expose] public section

set_option maxRecDepth 16384

noncomputable section

namespace Cert.Proof.K

open Cert.KernelIdeal Cert.KernelIdeal.Gen

open Idealize.ShloMosaic Idealize.ShloMosaic.TcCoe
open Idealize.SL.Sem

variable {F : FTy → Type} [FloatOps F] [Named F]

/-- The modulation's index under a feature map's: the map's image, the same place in the pixel block. -/
def under (i : S192x8x32768.Idx) : S2x8x32768.Idx := fun a => match a with
  | ⟨0, _⟩ => ⟨(i 0).val / 96, Nat.div_lt_of_lt_mul (i 0).isLt⟩
  | ⟨1, _⟩ => i 1
  | ⟨2, _⟩ => i 2

/-- The modulated features. -/
def modulated (g : S2x8x32768.Idx → F .f32) (x : S192x8x32768.Idx → F .f32) : S192x8x32768.Idx → F .f32 :=
  fun i => FloatOps.mulf (x i) (g (under i))

variable (V : Dev nD → Valuation τ sig (Elt F)) (n : ℕ)

/-- The pipeline's array is the modulated features. -/
theorem scaled_eq (c : Dev nD) : scaled V n c = modulated (V c main_v5) (V c main_v4) := by
  unfold scaled
  refine (dat V n c).arrAt_eq_of_covers 2 _ (by decide +kernel) fun t hf y => ?_
  have e0 : ∀ t : Fin cfg1.N, win1_0.index t = ![t.val / 96, 0, 0] := by decide +kernel
  have e1 : ∀ t : Fin cfg1.N, win1_1.index t = ![t.val, 0, 0] := by decide +kernel
  have e2 : ∀ t : Fin cfg1.N, win1_2.index t = ![t.val, 0, 0] := by decide +kernel
  have hx : (win1_1.blk t).view.emb y = (win1_2.blk t).view.emb y := by
    funext a
    fin_cases a <;> refine Fin.ext ?_ <;> blk_simp [e1 t, e2 t]
  have hg : (win1_0.blk t).view.emb y = under ((win1_2.blk t).view.emb y) := by
    funext a
    fin_cases a <;> refine Fin.ext ?_
    · show _ = ((win1_2.blk t).view.emb y 0).val / 96
      blk_simp [e0 t, e2 t]
    · show _ = ((win1_2.blk t).view.emb y 1).val
      blk_simp [e0 t, e2 t]
      rfl
    · show _ = ((win1_2.blk t).view.emb y 2).val
      blk_simp [e0 t, e2 t]
      rfl
  dsimp only [dat]
  unfold k1_pay1
  rw [shapeCast_self, shapeCast_self]
  show FloatOps.mulf (V c main_v4 ((win1_1.blk t).view.emb y)) (V c main_v5 ((win1_0.blk t).view.emb y)) = _
  rw [hx, hg]
  rfl

end Cert.Proof.K
-- ==== Proof.Value.lean ====
/-
  The program's result, read at an index: the feature there times the modulation of the rank its pixel's label names.
-/
module

public import proofs.«01_k».proof.Proof.Ends
public import proofs.«01_k».proof.Proof.Scaled

@[expose] public section

noncomputable section

namespace Cert.Proof.K

open Cert.KernelIdeal Cert.KernelIdeal.Gen

open Idealize.ShloMosaic Idealize.ShloMosaic.TcCoe
open Idealize.SL.Sem

variable {F : FTy → Type} [FloatOps F] [Named F]

/-- A feature's pixel, among the labels. -/
def pixel (j : S2x96x512x512.Idx) : S2x1x512x512.Idx := fun a => match a with
  | ⟨0, _⟩ => j 0
  | ⟨1, _⟩ => ⟨0, Nat.one_pos⟩
  | ⟨2, _⟩ => j 2
  | ⟨3, _⟩ => j 3

/-- A feature's place in the pipeline's array: its map, and its pixel's row of eight and place in the row. -/
def place (j : S2x96x512x512.Idx) : S192x8x32768.Idx := fun a => match a with
  | ⟨0, _⟩ => ⟨(j 0).val * 96 + (j 1).val, by have h0 : (j 0).val < 2 := (j 0).isLt; have h1 : (j 1).val < 96 := (j 1).isLt; show _ < 192; omega⟩
  | ⟨1, _⟩ => ⟨(j 2).val / 64, by have h2 : (j 2).val < 512 := (j 2).isLt; show _ < 8; omega⟩
  | ⟨2, _⟩ => ⟨(j 2).val % 64 * 512 + (j 3).val, by have h3 : (j 3).val < 512 := (j 3).isLt; show _ < 32768; omega⟩

/-- A pixel's place among the flat pixels. -/
def flat (i : S2x1x512x512.Idx) : S524288.Idx := fun a => match a with
  | ⟨0, _⟩ => ⟨((i 0).val * 512 + (i 2).val) * 512 + (i 3).val, by
      have h0 : (i 0).val < 2 := (i 0).isLt; have h2 : (i 2).val < 512 := (i 2).isLt; have h3 : (i 3).val < 512 := (i 3).isLt; show _ < 524288; omega⟩

/-- Class `n` of the nineteen ranks (any number, reduced). -/
def at19 (n : ℕ) : S19.Idx := fun a => match a with | ⟨0, _⟩ => ⟨n % 19, Nat.mod_lt _ (by decide)⟩

/-- A feature's place has its row-major position, -/
theorem place_pos (j : S2x96x512x512.Idx) : (S192x8x32768.rowMajor (place j)).val = (S2x96x512x512.rowMajor j).val := by
  refine (Shape.rowMajor_val_three _).trans ((?_ : _ = _).trans (Shape.rowMajor_val_four _).symm)
  show (((j 0).val * 96 + (j 1).val) * 8 + (j 2).val / 64) * 32768 + ((j 2).val % 64 * 512 + (j 3).val)
    = (((j 0).val * 96 + (j 1).val) * 512 + (j 2).val) * 512 + (j 3).val
  omega

/-- its modulation's place its pixel's, -/
theorem under_pos (j : S2x96x512x512.Idx) : (S2x1x512x512.rowMajor (pixel j)).val = (S2x8x32768.rowMajor (under (place j))).val := by
  refine (Shape.rowMajor_val_four _).trans ((?_ : _ = _).trans (Shape.rowMajor_val_three _).symm)
  show (((j 0).val * 1 + 0) * 512 + (j 2).val) * 512 + (j 3).val
    = (((j 0).val * 96 + (j 1).val) / 96 * 8 + (j 2).val / 64) * 32768 + ((j 2).val % 64 * 512 + (j 3).val)
  have h1 : (j 1).val < 96 := (j 1).isLt
  omega

/-- and a pixel's flat place the pixel's. -/
theorem flat_pos (i : S2x1x512x512.Idx) : (S524288.rowMajor (flat i)).val = (S2x1x512x512.rowMajor i).val := by
  refine (Shape.rowMajor_val_one _).trans ((?_ : _ = _).trans (Shape.rowMajor_val_four _).symm)
  show ((i 0).val * 512 + (i 2).val) * 512 + (i 3).val = (((i 0).val * 1 + (i 1).val) * 512 + (i 2).val) * 512 + (i 3).val
  have h1 : (i 1).val < 1 := (i 1).isLt
  omega

/-- The padded table holds the ranks at the nineteen classes. -/
theorem padded (rk : S19.Idx → F .f32) (z : S_.Idx → F .f32) {n : ℕ} (hn : n < 19) :
    pad S32 ![0] ![13] ![0] rk z pads_S19_S32_0130 h_S_ (at32 n) = rk (at19 n) := by
  unfold pad
  have e : ∀ a : Fin S19.rank, (at32 n (a.cast pads_S19_S32_0130.1)).val = n := fun a => Nat.mod_eq_of_lt (by omega)
  rw [dif_pos fun a => by
    rw [e a]
    match a with
    | ⟨0, _⟩ => exact ⟨Nat.zero_le _, Nat.mod_one _, by show (n - 0) / (0 + 1) < 19; omega⟩]
  congr 1
  funext a
  refine Fin.ext ?_
  match a with
  | ⟨0, _⟩ =>
    show ((at32 n _).val - 0) / (0 + 1) = n % 19
    rw [e ⟨0, _⟩, Nat.mod_eq_of_lt hn]
    omega

variable (m : (ℓ : Loc nD τ sig) → Buf (Elt F) ℓ) (d : Dev nD)

/-- The result, where the pixel's label is one of the nineteen classes. -/
theorem result_at (j : S2x96x512x512.Idx) (h : (m (d, (main_arg1 : DevRef τ sig)) (pixel j) : BitVec 32).toNat < 19) :
    V5 m d main_v7 j = FloatOps.mulf (m (d, (main_arg0 : DevRef τ sig)) j : F .f32)
      (gval (m (d, (main_arg2 : DevRef τ sig)) (at19 (m (d, (main_arg1 : DevRef τ sig)) (pixel j) : BitVec 32).toNat))) := by
  obtain ⟨z, hz⟩ := V1_ranks m d
  rw [V5_result, scaled_eq, V3_gamma, V3_features, V1_labels, hz, shapeCast_apply _ _ j (place j) (place_pos j)]
  unfold modulated
  rw [shapeCast_apply _ shapeCasts_S2x96x512x512_S192x8x32768 (place j) j (place_pos j).symm,
    shapeCast_apply _ shapeCasts_S2x1x512x512_S2x8x32768 _ (pixel j) (under_pos j),
    shapeCast_apply _ shapeCasts_S524288_S2x1x512x512 _ (flat (pixel j)) (flat_pos (pixel j))]
  unfold gam
  rw [shapeCast_apply _ shapeCasts_S2x1x512x512_S524288 _ (pixel j) (flat_pos (pixel j)).symm, padded _ _ h]

end Cert.Proof.K
-- ==== Proof.Reference.lean ====
/-
  The reference's result, read at an index: its gather is in range wherever the label is one of the nineteen classes.
-/
module

public import proofs.«01_k».proof.Proof.Pre
public import proofs.«01_k».proof.Proof.Gen.ReferenceIdeal.Run
public import Idealize.ShloMosaic.Lib.Pipeline.Value

@[expose] public section

noncomputable section

namespace Cert.Proof.K.Ref

open Cert.ReferenceIdeal Cert.ReferenceIdeal.Gen
open Idealize.ShloMosaic Idealize.SL.Sem

variable {F : FTy → Type} [FloatOps F]

/-- A pixel of an image among the labels, -/
def within (p : S2x512x512.Idx) : S2x1x512x512.Idx := fun a => match a with
  | ⟨0, _⟩ => p 0
  | ⟨1, _⟩ => ⟨0, Nat.one_pos⟩
  | ⟨2, _⟩ => p 1
  | ⟨3, _⟩ => p 2

/-- and among the gather's start indices. -/
def start (p : S2x512x512.Idx) : S2x512x512x1.Idx := fun a => match a with
  | ⟨0, _⟩ => p 0
  | ⟨1, _⟩ => p 1
  | ⟨2, _⟩ => p 2
  | ⟨3, _⟩ => ⟨0, Nat.one_pos⟩

/-- The pixel of a start index. -/
def pixelOf (q : S2x512x512x1.Idx) : S2x512x512.Idx := fun a => match a with
  | ⟨0, _⟩ => q 0
  | ⟨1, _⟩ => q 1
  | ⟨2, _⟩ => q 2

/-- The pixel of a feature. -/
def pixelAt (j : S2x96x512x512.Idx) : S2x512x512.Idx := fun a => match a with
  | ⟨0, _⟩ => j 0
  | ⟨1, _⟩ => j 2
  | ⟨2, _⟩ => j 3

/-- Class `n` of the nineteen (any number, reduced). -/
def cls (n : ℕ) : S19.Idx := fun a => match a with | ⟨0, _⟩ => ⟨n % 19, Nat.mod_lt _ (by decide)⟩

/-! ## The reference's steps -/

/-- The labels as images. -/
abbrev images (lab : IVec S2x1x512x512 32) : IVec S2x512x512 32 := shapeCast S2x512x512 lab shapeCasts_S2x1x512x512_S2x512x512
/-- A label below zero counted from the end of the table. -/
abbrev wrapped (w : IVec S2x512x512 32) : IVec S2x512x512 32 :=
  select (cmpi .slt w (broadcastInDim S2x512x512 ![] bcast_S_S2x512x512 (constantI S_ 32 0#32)))
    (addi w (broadcastInDim S2x512x512 ![] bcast_S_S2x512x512 (constantI S_ 32 19#32))) w
/-- The start indices. -/
abbrev starts (w : IVec S2x512x512 32) : IVec S2x512x512x1 32 :=
  broadcastInDim S2x512x512x1 ![0, 1, 2] bcast_S2x512x512_S2x512x512x1_0_1_2 (wrapped w)
/-- Where the start index is inside the table. -/
abbrev inside (i : IVec S2x512x512x1 32) : IVec S2x512x512 1 :=
  Host.reduce IntOp.andi
    (andi (cmpi .sge i (broadcastInDim S2x512x512x1 ![] bcast_S_S2x512x512x1 (constantI S_ 32 0#32)))
      (cmpi .sle i (broadcastInDim S2x512x512x1 ![0, 1, 2, 3] bcast_S1x1x1x1_S2x512x512x1_0_1_2_3
        (broadcastInDim S1x1x1x1 ![3] bcast_S1_S1x1x1x1_3 (constantI S1 32 18#32)))))
    (constantI S_ 1 1#1) reducesTo_S2x512x512x1_S2x512x512_d3 h_S_
/-- The table's values. -/
abbrev table (rk : FVec F S19 .f32) : FVec F S19 .f32 :=
  subf (broadcastInDim S19 ![] bcast_S_S19 (constant S_ .f32 0x3F800000#32))
    (Host.divf rk (broadcastInDim S19 ![] bcast_S_S19 (constant S_ .f32 0x41900000#32)))
/-- The table taken at the labels, outside it the filler. -/
abbrev taken (rk : FVec F S19 .f32) (w : IVec S2x512x512 32) : FVec F S2x512x512 .f32 :=
  select (inside (starts w)) (Host.gather gather_S19_S2x512x512x1_S2x512x512_n_0_n_n_0_3_1 (table rk) (starts w))
    (broadcastInDim S2x512x512 ![] bcast_S_S2x512x512 (constant S_ .f32 0x7FC00000#32))
/-- The whole. -/
abbrev whole (x : FVec F S2x96x512x512 .f32) (lab : IVec S2x1x512x512 32) (rk : FVec F S19 .f32) : FVec F S2x96x512x512 .f32 :=
  mulf x (broadcastInDim S2x96x512x512 ![0, 1, 2, 3] bcast_S2x1x512x512_S2x96x512x512_0_1_2_3
    (broadcastInDim S2x1x512x512 ![0, 2, 3] bcast_S2x512x512_S2x1x512x512_0_2_3
      (addf (broadcastInDim S2x512x512 ![] bcast_S_S2x512x512 (constant S_ .f32 0x3F800000#32))
        (mulf (broadcastInDim S2x512x512 ![] bcast_S_S2x512x512 (constant S_ .f32 0x3F800000#32)) (taken rk (images lab))))))

/-! ## At an index -/

/-- A word below nineteen is not negative, -/
theorem word_pos (a : BitVec 32) (h : a.toNat < 19) : IntOp.cmpi .slt a 0#32 = 0#1 := by
  have e : a.slt 0#32 = false := by
    simp only [BitVec.slt_eq_decide, BitVec.toInt_eq_toNat_cond, BitVec.toNat_ofNat, Nat.reducePow, Nat.reduceMod, decide_eq_false_iff_not]; omega
  unfold IntOp.cmpi
  simp only [e]; rfl

/-- is at least zero and at most eighteen, -/
theorem word_inside (a : BitVec 32) (h : a.toNat < 19) : IntOp.andi (IntOp.cmpi .sge a 0#32) (IntOp.cmpi .sle a 18#32) = 1#1 := by
  have e : (0#32 : BitVec 32).sle a = true := by
    simp only [BitVec.sle_eq_decide, BitVec.toInt_eq_toNat_cond, BitVec.toNat_ofNat, Nat.reducePow, Nat.reduceMod, decide_eq_true_eq]; omega
  have e' : a.sle 18#32 = true := by
    simp only [BitVec.sle_eq_decide, BitVec.toInt_eq_toNat_cond, BitVec.toNat_ofNat, Nat.reducePow, Nat.reduceMod, decide_eq_true_eq]; omega
  unfold IntOp.cmpi
  simp only [e, e']; rfl

/-- and read signed is itself. -/
theorem word_signed (a : BitVec 32) (h : a.toNat < 19) : a.toInt.toNat = a.toNat := by
  simp only [BitVec.toInt_eq_toNat_cond, Nat.reducePow]
  omega

/-- The labels as images, at a pixel. -/
theorem images_at (lab : IVec S2x1x512x512 32) (p : S2x512x512.Idx) : images lab p = lab (within p) := by
  refine shapeCast_apply _ _ _ _ ((Shape.rowMajor_val_four _).trans ((?_ : _ = _).trans (Shape.rowMajor_val_three _).symm))
  show (((p 0).val * 1 + 0) * 512 + (p 1).val) * 512 + (p 2).val = ((p 0).val * 512 + (p 1).val) * 512 + (p 2).val
  omega

/-- A start index is its pixel's label, where that is one of the classes. -/
theorem starts_at (w : IVec S2x512x512 32) (q : S2x512x512x1.Idx) (h : (w (pixelOf q)).toNat < 19) : starts w q = w (pixelOf q) := by
  refine (broadcastInDim_apply _ _ _ _ (pixelOf q) fun a => ?_).trans ?_
  · match a with
    | ⟨0, _⟩ => rfl
    | ⟨1, _⟩ => rfl
    | ⟨2, _⟩ => rfl
  · show Scalar.select (IntOp.cmpi .slt (w (pixelOf q)) 0#32) _ (w (pixelOf q)) = _
    rw [word_pos _ h]; rfl

/-- Every class is inside the table. -/
theorem inside_at (w : IVec S2x512x512 32) (h : ∀ p, (w p).toNat < 19) (p : S2x512x512.Idx) : inside (starts w) p = 1#1 :=
  (reduce_bits _ _ _ _ rfl p).mpr fun q _ => by
    show IntOp.andi (IntOp.cmpi .sge (starts w q) 0#32) (IntOp.cmpi .sle (starts w q) 18#32) = 1#1
    rw [starts_at w q (h _)]
    exact word_inside _ (h _)

/-- The gather at a pixel: the table at the pixel's start index, read signed and clamped to the table. -/
theorem gather_at {α : Type} (x : S19.Idx → α) (idx : IVec S2x512x512x1 32) (p : S2x512x512.Idx) (h : (idx (start p)).toNat < 19) :
    Host.gather gather_S19_S2x512x512x1_S2x512x512_n_0_n_n_0_3_1 x idx p = x (cls (idx (start p)).toNat) := by
  unfold Host.gather
  refine congrArg x (funext fun a => Fin.ext ?_)
  match a with
  | ⟨0, _⟩ =>
    show (gather_S19_S2x512x512x1_S2x512x512_n_0_n_n_0_3_1).start p idx 0 + (gather_S19_S2x512x512x1_S2x512x512_n_0_n_n_0_3_1).batchCoord p 0
      + (gather_S19_S2x512x512x1_S2x512x512_n_0_n_n_0_3_1).offCoord p 0 = (idx (start p)).toNat % 19
    rw [GatherDims.batchCoord_eq_zero _ _ _ List.not_mem_nil,
      GatherDims.offCoord_eq_zero _ _ _ (fun e => ((GatherDims.mem_sKept _ _).mp e).1 (List.mem_singleton.mpr rfl))]
    have hs : (gather_S19_S2x512x512x1_S2x512x512_n_0_n_n_0_3_1).start p idx 0 = min (idx (start p)).toInt.toNat 18 := by
      unfold GatherDims.start
      rw [dif_pos (show (0 : Fin 1) ∈ (gather_S19_S2x512x512x1_S2x512x512_n_0_n_n_0_3_1).startIndexMap from List.mem_singleton.mpr rfl)]
      refine congrArg (fun q => min (idx q).toInt.toNat 18) (funext fun b => Fin.ext ?_)
      match b with
      | ⟨0, _⟩ => rfl
      | ⟨1, _⟩ => rfl
      | ⟨2, _⟩ => rfl
      | ⟨3, _⟩ => rfl
    rw [hs, word_signed _ h]
    omega

/-- What is taken at a pixel: one less the eighteenth of its class's rank. -/
theorem taken_at (rk : FVec F S19 .f32) (w : IVec S2x512x512 32) (h : ∀ p, (w p).toNat < 19) (p : S2x512x512.Idx) :
    taken rk w p = FloatOps.subf (Scalar.ofBits .f32 0x3F800000#32) (FloatOps.hostDivf (rk (cls (w p).toNat)) (Scalar.ofBits .f32 0x41900000#32)) := by
  have hp : pixelOf (start p) = p := funext fun a => match a with | ⟨0, _⟩ => rfl | ⟨1, _⟩ => rfl | ⟨2, _⟩ => rfl
  have e : starts w (start p) = w p := (starts_at w (start p) (h _)).trans (by rw [hp])
  show Scalar.select (inside (starts w) p) (Host.gather gather_S19_S2x512x512x1_S2x512x512_n_0_n_n_0_3_1 (table rk) (starts w) p) _ = _
  rw [inside_at w h p, gather_at _ _ _ (by rw [e]; exact h p), e]
  rfl

/-- The reference's result at a feature. -/
theorem whole_at (x : FVec F S2x96x512x512 .f32) (lab : IVec S2x1x512x512 32) (rk : FVec F S19 .f32) (h : ∀ i, (lab i).toNat < 19)
    (j : S2x96x512x512.Idx) :
    whole x lab rk j = FloatOps.mulf (x j) (FloatOps.addf (Scalar.ofBits .f32 0x3F800000#32) (FloatOps.mulf (Scalar.ofBits .f32 0x3F800000#32)
      (FloatOps.subf (Scalar.ofBits .f32 0x3F800000#32)
        (FloatOps.hostDivf (rk (cls (lab (within (pixelAt j))).toNat)) (Scalar.ofBits .f32 0x41900000#32))))) := by
  refine congrArg (FloatOps.mulf (x j)) ?_
  refine (broadcastInDim_apply _ _ _ j (within (pixelAt j)) fun a => ?_).trans ?_
  · match a with
    | ⟨0, _⟩ => rfl
    | ⟨1, _⟩ => rfl
    | ⟨2, _⟩ => rfl
    | ⟨3, _⟩ => rfl
  refine (broadcastInDim_apply _ _ _ _ (pixelAt j) fun a => ?_).trans ?_
  · match a with
    | ⟨0, _⟩ => rfl
    | ⟨1, _⟩ => rfl
    | ⟨2, _⟩ => rfl
  have hw : ∀ p, (images lab p).toNat < 19 := fun p => by rw [images_at]; exact h _
  refine congrArg (FloatOps.addf _) (congrArg (FloatOps.mulf _) ?_)
  rw [taken_at rk _ hw, images_at]

end Cert.Proof.K.Ref
-- ==== Proof.Consts.lean ====
/-
  The float constants of the two programs, as the reals they denote, and the law that joins the two results.
-/
module

public import Idealize.ShloMosaic.PureOps.Ideal

@[expose] public section

noncomputable section

namespace Cert.Proof.K

open Idealize.ShloMosaic

/-- The pattern of one; -/
theorem one_bits : Ideal.ofBits .f32 0x3F800000#32 = ((1 : ℝ) : EReal) := by
  simp [Ideal.ofBits, Ideal.ieee, -EReal.coe_mul, -EReal.coe_one]
  norm_num
/-- of two; -/
theorem two_bits : Ideal.ofBits .f32 0x40000000#32 = ((2 : ℝ) : EReal) := by
  simp [Ideal.ofBits, Ideal.ieee, -EReal.coe_mul]
  norm_num
/-- of eighteen. -/
theorem eighteen_bits : Ideal.ofBits .f32 0x41900000#32 = ((18 : ℝ) : EReal) := by
  simp [Ideal.ofBits, Ideal.ieee, -EReal.coe_mul]
  norm_num

/-- Two less an extended real is one and one times one less it, at the infinities too. -/
theorem two_sub (y : EReal) : ((2 : ℝ) : EReal) - y = ((1 : ℝ) : EReal) + ((1 : ℝ) : EReal) * (((1 : ℝ) : EReal) - y) := by
  induction y with
  | bot =>
    have e : ∀ r : ℝ, (r : EReal) - ⊥ = ⊤ := fun r => by rw [sub_eq_add_neg, EReal.neg_bot, EReal.coe_add_top]
    rw [e, e, EReal.coe_one, one_mul, ← EReal.coe_one, EReal.coe_add_top]
  | top => simp
  | coe r =>
    norm_cast
    ring

/-- The kernel's modulation and the reference's, of one rank. -/
theorem modulation (r : EReal) :
    ((2 : ℝ) : EReal) - r * ((1 / 18 : ℝ) : EReal)
      = ((1 : ℝ) : EReal) + ((1 : ℝ) : EReal) * (((1 : ℝ) : EReal) - Ideal.div r ((18 : ℝ) : EReal)) := by
  rw [Ideal.div_coe (by norm_num), two_sub]

end Cert.Proof.K
-- ==== Proof.Algebraic.lean ====
/-
  At extended reals the idealized kernel and the reference end with equal results.
-/
module

public import proofs.«01_k».proof.Proof.Frames
public import proofs.«01_k».proof.Proof.Value
public import proofs.«01_k».proof.Proof.Reference
public import proofs.«01_k».proof.Proof.Consts

@[expose] public section

noncomputable section

namespace Cert.Proof.K

open Idealize.ShloMosaic Idealize.ShloMosaic.TcCoe Idealize.SL.Sem

open Cert.KernelIdeal Cert.KernelIdeal.Gen

/-- The kernel's modulation of a rank, over the reals its constants denote. -/
theorem gval_ideal (r : EReal) : (gval (F := Ideal) r : EReal) = ((2 : ℝ) : EReal) - r * ((1 / 18 : ℝ) : EReal) := by
  have e : (Named.named (F := Ideal) κ "inv_18" (φ := .f32) 0x3D638E39#32 : EReal) = ((1 / 18 : ℝ) : EReal) :=
    IdealRules.named_const.ideal_named_scalar κ "inv_18" _ _ rfl
  have h : (gval (F := Ideal) r : EReal) = Ideal.ofBits .f32 0x40000000#32 - r * (Named.named (F := Ideal) κ "inv_18" (φ := .f32) 0x3D638E39#32 : EReal) := rfl
  rw [h, e, two_bits]

/-- The two results are one array, where every label is below nineteen. -/
theorem results_eq (m : (ℓ : Loc nD τ sig) → Buf (Elt Ideal) ℓ) (d : Dev nD)
    (h : ∀ i : S2x1x512x512.Idx, (m (d, (main_arg1 : DevRef τ sig)) i : BitVec 32).toNat < 19) :
    Ref.whole (F := Ideal) (m (d, (main_arg0 : DevRef τ sig))) (m (d, (main_arg1 : DevRef τ sig))) (m (d, (main_arg2 : DevRef τ sig)))
      = V5 m d main_v7 := by
  funext j
  have hp : Ref.within (Ref.pixelAt j) = pixel j := funext fun a => match a with | ⟨0, _⟩ => rfl | ⟨1, _⟩ => rfl | ⟨2, _⟩ => rfl | ⟨3, _⟩ => rfl
  refine (Ref.whole_at _ _ _ h j).trans (Eq.trans ?_ (result_at m d j (h _)).symm)
  refine congrArg (FloatOps.mulf (F := Ideal) (φ := .f32) (m (d, (main_arg0 : DevRef τ sig)) j)) ?_
  rw [hp]
  refine Eq.trans ?_ (gval_ideal _).symm
  rw [modulation, ← one_bits, ← eighteen_bits]
  rfl

/-- From memories that agree on the arguments, both programs run and end with equal results. -/
theorem algebraic : Cert.algebraic_KernelIdeal_ReferenceIdeal := by
  intro m g m' g' hp hagree
  have hl : ∀ d, ∀ i : S2x1x512x512.Idx, (m (d, (main_arg1 : DevRef τ sig)) i : BitVec 32).toNat < 19 := fun d i => labels_lt _ _ _ (hp d) i
  refine ⟨fun c => V5 m c main_v7, (θ_run _ _ _).mono (fun r h c => ?_) (run_labels m g hl),
    (θ_run _ _ _).mono (fun r h c => ⟨(h c).1.trans ?_, (h c).2⟩) (Cert.ReferenceIdeal.Value.run m' g')⟩
  · exact ⟨h.1 c main_v7 (by decide), (post_args m r h).1 c⟩
  · rw [(hagree c).1, (hagree c).2.1, (hagree c).2.2]
    exact results_eq m c (hl c)

end Cert.Proof.K
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_label_range
public import proofs.«01_k».proof.Proof.Frames
public import proofs.«01_k».proof.Proof.Algebraic

@[expose] public section

noncomputable section

namespace Cert.Proof

/-- Every claim, behind the programs' stated facts. -/
theorem claim : Cert.Claim :=
  ⟨Cert.Kernel.Gen.facts, Cert.KernelIdeal.Gen.facts, Cert.ReferenceIdeal.Gen.facts, Cert.Pre_label_range.Gen.facts,
    K.frame_p, K.frame_pi, K.frame_ri, K.frame_ri_pre, K.named_inv, K.algebraic⟩

end Cert.Proof

end
